-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bins_uniform [hPre_bins_uniform : Cert.Pre_bins_uniform.Facts] (m : (ℓ : Loc Cert.KernelIdeal.nD Cert.KernelIdeal.τ Cert.KernelIdeal.sig) → Buf (Elt Ideal) ℓ) : Prop :=
  ∀ c : Dev Cert.KernelIdeal.nD,
    (Cert.Pre_bins_uniform.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bins_uniform [hPre_bins_uniform : Cert.Pre_bins_uniform.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bins_uniform.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceRightIdeal (m : (ℓ : Loc Cert.ReferenceRightIdeal.nD Cert.ReferenceRightIdeal.τ Cert.ReferenceRightIdeal.sig) → Buf (Elt Ideal) ℓ) : Prop :=
  True

def Pre_ReferenceRightIdeal_bins_uniform [hPre_bins_uniform : Cert.Pre_bins_uniform.Facts] (m : (ℓ : Loc Cert.ReferenceRightIdeal.nD Cert.ReferenceRightIdeal.τ Cert.ReferenceRightIdeal.sig) → Buf (Elt Ideal) ℓ) : Prop :=
  ∀ c : Dev Cert.ReferenceRightIdeal.nD,
    (Cert.Pre_bins_uniform.fn (F := Ideal) (m ((c.tc : Thread Cert.ReferenceRightIdeal.nD Cert.ReferenceRightIdeal.τ).loc Cert.ReferenceRightIdeal.main_arg0)) (m ((c.tc : Thread Cert.ReferenceRightIdeal.nD Cert.ReferenceRightIdeal.τ).loc Cert.ReferenceRightIdeal.main_arg1))) = (fun _ => 1#1)

def Pre_KernelSync (m : (ℓ : Loc Cert.KernelSync.nD Cert.KernelSync.τ Cert.KernelSync.sig) → Buf (Elt Bits) ℓ) : Prop :=
  True

def Pre_KernelSyncIdeal (m : (ℓ : Loc Cert.KernelSyncIdeal.nD Cert.KernelSyncIdeal.τ Cert.KernelSyncIdeal.sig) → Buf (Elt Ideal) ℓ) : Prop :=
  True

def Pre_KernelSyncIdeal_bins_uniform [hPre_bins_uniform : Cert.Pre_bins_uniform.Facts] (m : (ℓ : Loc Cert.KernelSyncIdeal.nD Cert.KernelSyncIdeal.τ Cert.KernelSyncIdeal.sig) → Buf (Elt Ideal) ℓ) : Prop :=
  ∀ c : Dev Cert.KernelSyncIdeal.nD,
    (Cert.Pre_bins_uniform.fn (F := Ideal) (m ((c.tc : Thread Cert.KernelSyncIdeal.nD Cert.KernelSyncIdeal.τ).loc Cert.KernelSyncIdeal.main_arg0)) (m ((c.tc : Thread Cert.KernelSyncIdeal.nD Cert.KernelSyncIdeal.τ).loc Cert.KernelSyncIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_bins_uniform [hKernelIdeal : Cert.KernelIdeal.Facts] [hPre_bins_uniform : Cert.Pre_bins_uniform.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bins_uniform m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_bins_uniform [hReferenceIdeal : Cert.ReferenceIdeal.Facts] [hPre_bins_uniform : Cert.Pre_bins_uniform.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bins_uniform m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceRightIdeal [hReferenceRightIdeal : Cert.ReferenceRightIdeal.Facts] : Prop :=
  ∀ (m : (ℓ : Loc Cert.ReferenceRightIdeal.nD Cert.ReferenceRightIdeal.τ Cert.ReferenceRightIdeal.sig) → Buf (Elt Ideal) ℓ) (g : Dev Cert.ReferenceRightIdeal.nD → PrngReg), Pre_ReferenceRightIdeal m →
    θ_run (Cert.ReferenceRightIdeal.defs (F := Ideal)) (onTc (τ := Cert.ReferenceRightIdeal.τ) (Cert.ReferenceRightIdeal.main (F := Ideal))) ⟨m, fun _ => 0, g⟩ (fun r => (∀ c : Dev Cert.ReferenceRightIdeal.nD,
      r.2.mem ((c.tc : Thread Cert.ReferenceRightIdeal.nD Cert.ReferenceRightIdeal.τ).loc Cert.ReferenceRightIdeal.main_arg0) = m ((c.tc : Thread Cert.ReferenceRightIdeal.nD Cert.ReferenceRightIdeal.τ).loc Cert.ReferenceRightIdeal.main_arg0)
      ∧ r.2.mem ((c.tc : Thread Cert.ReferenceRightIdeal.nD Cert.ReferenceRightIdeal.τ).loc Cert.ReferenceRightIdeal.main_arg1) = m ((c.tc : Thread Cert.ReferenceRightIdeal.nD Cert.ReferenceRightIdeal.τ).loc Cert.ReferenceRightIdeal.main_arg1))
      ∧ r.2.sem = fun _ => 0)

def quiescent_ReferenceRightIdeal_pre_bins_uniform [hReferenceRightIdeal : Cert.ReferenceRightIdeal.Facts] [hPre_bins_uniform : Cert.Pre_bins_uniform.Facts] : Prop :=
  ∀ (m : (ℓ : Loc Cert.ReferenceRightIdeal.nD Cert.ReferenceRightIdeal.τ Cert.ReferenceRightIdeal.sig) → Buf (Elt Ideal) ℓ) (g : Dev Cert.ReferenceRightIdeal.nD → PrngReg), Pre_ReferenceRightIdeal_bins_uniform m →
    θ_run (Cert.ReferenceRightIdeal.defs (F := Ideal)) (onTc (τ := Cert.ReferenceRightIdeal.τ) (Cert.ReferenceRightIdeal.main (F := Ideal))) ⟨m, fun _ => 0, g⟩ (fun r => (∀ c : Dev Cert.ReferenceRightIdeal.nD,
      r.2.mem ((c.tc : Thread Cert.ReferenceRightIdeal.nD Cert.ReferenceRightIdeal.τ).loc Cert.ReferenceRightIdeal.main_arg0) = m ((c.tc : Thread Cert.ReferenceRightIdeal.nD Cert.ReferenceRightIdeal.τ).loc Cert.ReferenceRightIdeal.main_arg0)
      ∧ r.2.mem ((c.tc : Thread Cert.ReferenceRightIdeal.nD Cert.ReferenceRightIdeal.τ).loc Cert.ReferenceRightIdeal.main_arg1) = m ((c.tc : Thread Cert.ReferenceRightIdeal.nD Cert.ReferenceRightIdeal.τ).loc Cert.ReferenceRightIdeal.main_arg1))
      ∧ r.2.sem = fun _ => 0)

def quiescent_KernelSync [hKernelSync : Cert.KernelSync.Facts] : Prop :=
  ∀ (m : (ℓ : Loc Cert.KernelSync.nD Cert.KernelSync.τ Cert.KernelSync.sig) → Buf (Elt Bits) ℓ) (g : Dev Cert.KernelSync.nD → PrngReg), Pre_KernelSync m →
    θ_run (Cert.KernelSync.defs (F := Bits)) (Cert.KernelSync.threads (F := Bits)) ⟨m, fun _ => 0, g⟩ (fun r => (∀ c : Dev Cert.KernelSync.nD,
      r.2.mem ((c.tc : Thread Cert.KernelSync.nD Cert.KernelSync.τ).loc Cert.KernelSync.main_arg0) = m ((c.tc : Thread Cert.KernelSync.nD Cert.KernelSync.τ).loc Cert.KernelSync.main_arg0)
      ∧ r.2.mem ((c.tc : Thread Cert.KernelSync.nD Cert.KernelSync.τ).loc Cert.KernelSync.main_arg1) = m ((c.tc : Thread Cert.KernelSync.nD Cert.KernelSync.τ).loc Cert.KernelSync.main_arg1))
      ∧ r.2.sem = fun _ => 0)

def quiescent_KernelSyncIdeal [hKernelSyncIdeal : Cert.KernelSyncIdeal.Facts] : Prop :=
  ∀ (m : (ℓ : Loc Cert.KernelSyncIdeal.nD Cert.KernelSyncIdeal.τ Cert.KernelSyncIdeal.sig) → Buf (Elt Ideal) ℓ) (g : Dev Cert.KernelSyncIdeal.nD → PrngReg), Pre_KernelSyncIdeal m →
    θ_run (Cert.KernelSyncIdeal.defs (F := Ideal)) (Cert.KernelSyncIdeal.threads (F := Ideal)) ⟨m, fun _ => 0, g⟩ (fun r => (∀ c : Dev Cert.KernelSyncIdeal.nD,
      r.2.mem ((c.tc : Thread Cert.KernelSyncIdeal.nD Cert.KernelSyncIdeal.τ).loc Cert.KernelSyncIdeal.main_arg0) = m ((c.tc : Thread Cert.KernelSyncIdeal.nD Cert.KernelSyncIdeal.τ).loc Cert.KernelSyncIdeal.main_arg0)
      ∧ r.2.mem ((c.tc : Thread Cert.KernelSyncIdeal.nD Cert.KernelSyncIdeal.τ).loc Cert.KernelSyncIdeal.main_arg1) = m ((c.tc : Thread Cert.KernelSyncIdeal.nD Cert.KernelSyncIdeal.τ).loc Cert.KernelSyncIdeal.main_arg1))
      ∧ r.2.sem = fun _ => 0)

def quiescent_KernelSyncIdeal_pre_bins_uniform [hKernelSyncIdeal : Cert.KernelSyncIdeal.Facts] [hPre_bins_uniform : Cert.Pre_bins_uniform.Facts] : Prop :=
  ∀ (m : (ℓ : Loc Cert.KernelSyncIdeal.nD Cert.KernelSyncIdeal.τ Cert.KernelSyncIdeal.sig) → Buf (Elt Ideal) ℓ) (g : Dev Cert.KernelSyncIdeal.nD → PrngReg), Pre_KernelSyncIdeal_bins_uniform m →
    θ_run (Cert.KernelSyncIdeal.defs (F := Ideal)) (Cert.KernelSyncIdeal.threads (F := Ideal)) ⟨m, fun _ => 0, g⟩ (fun r => (∀ c : Dev Cert.KernelSyncIdeal.nD,
      r.2.mem ((c.tc : Thread Cert.KernelSyncIdeal.nD Cert.KernelSyncIdeal.τ).loc Cert.KernelSyncIdeal.main_arg0) = m ((c.tc : Thread Cert.KernelSyncIdeal.nD Cert.KernelSyncIdeal.τ).loc Cert.KernelSyncIdeal.main_arg0)
      ∧ r.2.mem ((c.tc : Thread Cert.KernelSyncIdeal.nD Cert.KernelSyncIdeal.τ).loc Cert.KernelSyncIdeal.main_arg1) = m ((c.tc : Thread Cert.KernelSyncIdeal.nD Cert.KernelSyncIdeal.τ).loc Cert.KernelSyncIdeal.main_arg1))
      ∧ r.2.sem = fun _ => 0)

def preserves_Kernel_KernelIdeal : Prop :=
  True

def algebraic_KernelIdeal_ReferenceIdeal_on_off_boundary_pre_bins_uniform [hKernelIdeal : Cert.KernelIdeal.Facts] [hReferenceIdeal : Cert.ReferenceIdeal.Facts] [hPre_bins_uniform : Cert.Pre_bins_uniform.Facts] [hOn_off_boundary : Cert.On_off_boundary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bins_uniform m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          (∀ i : (⟨1, ![33554432]⟩ : Shape).Idx, (Cert.On_off_boundary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨1, ![33554432]⟩ : Shape).Idx, (Cert.On_off_boundary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.ReferenceIdeal.nD Cert.ReferenceIdeal.τ).loc Cert.ReferenceIdeal.main_v6) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_KernelIdeal_ReferenceRightIdeal_pre_bins_uniform [hKernelIdeal : Cert.KernelIdeal.Facts] [hReferenceRightIdeal : Cert.ReferenceRightIdeal.Facts] [hPre_bins_uniform : Cert.Pre_bins_uniform.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceRightIdeal.nD Cert.ReferenceRightIdeal.τ Cert.ReferenceRightIdeal.sig) → Buf (Elt Ideal) ℓ) (g' : Dev Cert.ReferenceRightIdeal.nD → PrngReg), Pre_KernelIdeal_bins_uniform m →
    (∀ c : Dev Cert.KernelIdeal.nD,
      m' ((c.tc : Thread Cert.ReferenceRightIdeal.nD Cert.ReferenceRightIdeal.τ).loc Cert.ReferenceRightIdeal.main_arg0) = m ((c.tc : Thread Cert.KernelIdeal.nD Cert.KernelIdeal.τ).loc Cert.KernelIdeal.main_arg0)
      ∧ m' ((c.tc : Thread Cert.ReferenceRightIdeal.nD Cert.ReferenceRightIdeal.τ).loc Cert.ReferenceRightIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceRightIdeal.defs (F := Ideal)) (onTc (τ := Cert.ReferenceRightIdeal.τ) (Cert.ReferenceRightIdeal.main (F := Ideal))) ⟨m', fun _ => 0, g'⟩ (fun r => ∀ c : Dev Cert.ReferenceRightIdeal.nD,
          r.2.mem ((c.tc : Thread Cert.ReferenceRightIdeal.nD Cert.ReferenceRightIdeal.τ).loc Cert.ReferenceRightIdeal.main_v6) = v0 c
          ∧ r.2.mem ((c.tc : Thread Cert.ReferenceRightIdeal.nD Cert.ReferenceRightIdeal.τ).loc Cert.ReferenceRightIdeal.main_arg0) = m' ((c.tc : Thread Cert.ReferenceRightIdeal.nD Cert.ReferenceRightIdeal.τ).loc Cert.ReferenceRightIdeal.main_arg0)
          ∧ r.2.mem ((c.tc : Thread Cert.ReferenceRightIdeal.nD Cert.ReferenceRightIdeal.τ).loc Cert.ReferenceRightIdeal.main_arg1) = m' ((c.tc : Thread Cert.ReferenceRightIdeal.nD Cert.ReferenceRightIdeal.τ).loc Cert.ReferenceRightIdeal.main_arg1))

def preserves_KernelSync_KernelSyncIdeal : Prop :=
  True

def algebraic_KernelSyncIdeal_ReferenceIdeal_pre_bins_uniform [hKernelSyncIdeal : Cert.KernelSyncIdeal.Facts] [hReferenceIdeal : Cert.ReferenceIdeal.Facts] [hPre_bins_uniform : Cert.Pre_bins_uniform.Facts] : Prop :=
  ∀ (m : (ℓ : Loc Cert.KernelSyncIdeal.nD Cert.KernelSyncIdeal.τ Cert.KernelSyncIdeal.sig) → Buf (Elt Ideal) ℓ) (g : Dev Cert.KernelSyncIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelSyncIdeal_bins_uniform m →
    (∀ c : Dev Cert.KernelSyncIdeal.nD,
      m' ((c.tc : Thread Cert.ReferenceIdeal.nD Cert.ReferenceIdeal.τ).loc Cert.ReferenceIdeal.main_arg0) = m ((c.tc : Thread Cert.KernelSyncIdeal.nD Cert.KernelSyncIdeal.τ).loc Cert.KernelSyncIdeal.main_arg0)
      ∧ m' ((c.tc : Thread Cert.ReferenceIdeal.nD Cert.ReferenceIdeal.τ).loc Cert.ReferenceIdeal.main_arg1) = m ((c.tc : Thread Cert.KernelSyncIdeal.nD Cert.KernelSyncIdeal.τ).loc Cert.KernelSyncIdeal.main_arg1)) →
    ∃ (v0 : (c : Dev Cert.KernelSyncIdeal.nD) → Buf (Elt Ideal) ((c.tc : Thread Cert.KernelSyncIdeal.nD Cert.KernelSyncIdeal.τ).loc Cert.KernelSyncIdeal.main_v0)),
      θ_run (Cert.KernelSyncIdeal.defs (F := Ideal)) (Cert.KernelSyncIdeal.threads (F := Ideal)) ⟨m, fun _ => 0, g⟩ (fun r => ∀ c : Dev Cert.KernelSyncIdeal.nD,
          r.2.mem ((c.tc : Thread Cert.KernelSyncIdeal.nD Cert.KernelSyncIdeal.τ).loc Cert.KernelSyncIdeal.main_v0) = v0 c
          ∧ r.2.mem ((c.tc : Thread Cert.KernelSyncIdeal.nD Cert.KernelSyncIdeal.τ).loc Cert.KernelSyncIdeal.main_arg0) = m ((c.tc : Thread Cert.KernelSyncIdeal.nD Cert.KernelSyncIdeal.τ).loc Cert.KernelSyncIdeal.main_arg0)
          ∧ r.2.mem ((c.tc : Thread Cert.KernelSyncIdeal.nD Cert.KernelSyncIdeal.τ).loc Cert.KernelSyncIdeal.main_arg1) = m ((c.tc : Thread Cert.KernelSyncIdeal.nD Cert.KernelSyncIdeal.τ).loc Cert.KernelSyncIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hReferenceRightIdeal : Cert.ReferenceRightIdeal.Facts) (hKernelSync : Cert.KernelSync.Facts) (hKernelSyncIdeal : Cert.KernelSyncIdeal.Facts) (hPre_bins_uniform : Cert.Pre_bins_uniform.Facts) (hOn_off_boundary : Cert.On_off_boundary.Facts),
    quiescent_Kernel (hKernel := hKernel)
    ∧ quiescent_KernelIdeal (hKernelIdeal := hKernelIdeal)
    ∧ quiescent_KernelIdeal_pre_bins_uniform (hKernelIdeal := hKernelIdeal) (hPre_bins_uniform := hPre_bins_uniform)
    ∧ quiescent_ReferenceIdeal (hReferenceIdeal := hReferenceIdeal)
    ∧ quiescent_ReferenceIdeal_pre_bins_uniform (hReferenceIdeal := hReferenceIdeal) (hPre_bins_uniform := hPre_bins_uniform)
    ∧ quiescent_ReferenceRightIdeal (hReferenceRightIdeal := hReferenceRightIdeal)
    ∧ quiescent_ReferenceRightIdeal_pre_bins_uniform (hReferenceRightIdeal := hReferenceRightIdeal) (hPre_bins_uniform := hPre_bins_uniform)
    ∧ quiescent_KernelSync (hKernelSync := hKernelSync)
    ∧ quiescent_KernelSyncIdeal (hKernelSyncIdeal := hKernelSyncIdeal)
    ∧ quiescent_KernelSyncIdeal_pre_bins_uniform (hKernelSyncIdeal := hKernelSyncIdeal) (hPre_bins_uniform := hPre_bins_uniform)
    ∧ preserves_Kernel_KernelIdeal
    ∧ algebraic_KernelIdeal_ReferenceIdeal_on_off_boundary_pre_bins_uniform (hKernelIdeal := hKernelIdeal) (hReferenceIdeal := hReferenceIdeal) (hPre_bins_uniform := hPre_bins_uniform) (hOn_off_boundary := hOn_off_boundary)
    ∧ algebraic_KernelIdeal_ReferenceRightIdeal_pre_bins_uniform (hKernelIdeal := hKernelIdeal) (hReferenceRightIdeal := hReferenceRightIdeal) (hPre_bins_uniform := hPre_bins_uniform)
    ∧ preserves_KernelSync_KernelSyncIdeal
    ∧ algebraic_KernelSyncIdeal_ReferenceIdeal_pre_bins_uniform (hKernelSyncIdeal := hKernelSyncIdeal) (hReferenceIdeal := hReferenceIdeal) (hPre_bins_uniform := hPre_bins_uniform)
-- ==== On_off_boundary.lean ====
abbrev S33554432 : Shape := ⟨1, ![33554432]⟩
abbrev S255 : Shape := ⟨1, ![255]⟩
abbrev S33554432x1 : Shape := ⟨2, ![33554432, 1]⟩
abbrev S1x255 : Shape := ⟨2, ![1, 255]⟩
abbrev S33554432x255 : Shape := ⟨2, ![33554432, 255]⟩
abbrev S_ : Shape := ⟨0, ![]⟩

class Facts : Prop where
  bcast_S33554432_S33554432x1_0 : S33554432.BroadcastsInDim S33554432x1 (![0] : Fin 1 → Fin S33554432x1.rank)
  bcast_S255_S1x255_1 : S255.BroadcastsInDim S1x255 (![1] : Fin 1 → Fin S1x255.rank)
  bcast_S33554432x1_S33554432x255_0_1 : S33554432x1.BroadcastsInDim S33554432x255 (![0, 1] : Fin 2 → Fin S33554432x255.rank)
  bcast_S1x255_S33554432x255_0_1 : S1x255.BroadcastsInDim S33554432x255 (![0, 1] : Fin 2 → Fin S33554432x255.rank)
  reducesTo_S33554432x255_S33554432_d1 : S33554432x255.ReducesTo [1] S33554432
  h_S_ : 0 < S_.numel

variable [Facts]

def fn {F : FTy → Type} [FloatOps F] (main_arg0 : FVec F S33554432 .f32) (main_arg1 : FVec F S255 .f32) : IVec S33554432 1 :=
  let main_v0 : FVec F S33554432x1 .f32 := broadcastInDim S33554432x1 ![0] bcast_S33554432_S33554432x1_0 main_arg0
  let main_v1 : FVec F S1x255 .f32 := broadcastInDim S1x255 ![1] bcast_S255_S1x255_1 main_arg1
  let main_v2 : FVec F S33554432x255 .f32 := broadcastInDim S33554432x255 ![0, 1] bcast_S33554432x1_S33554432x255_0_1 main_v0
  let main_v3 : FVec F S33554432x255 .f32 := broadcastInDim S33554432x255 ![0, 1] bcast_S1x255_S33554432x255_0_1 main_v1
  let main_v4 : IVec S33554432x255 1 := cmpf .une main_v2 main_v3
  let main_c : IVec S_ 1 := constantI S_ 1 1#1
  let main_v5 : IVec S33554432 1 := (fun x v => Host.reduce IntOp.andi x v reducesTo_S33554432x255_S33554432_d1 h_S_) main_v4 main_c
  main_v5
-- ==== Pre_bins_uniform.lean ====
abbrev S33554432 : Shape := ⟨1, ![33554432]⟩
abbrev S255 : Shape := ⟨1, ![255]⟩
abbrev S_ : Shape := ⟨0, ![]⟩

class Facts : Prop where
  bcast_S_S255 : S_.BroadcastsInDim S255 (![] : Fin 0 → Fin S255.rank)

variable [Facts]

def fn {F : FTy → Type} [FloatOps F] (main_arg0 : FVec F S33554432 .f32) (main_arg1 : FVec F S255 .f32) : IVec S255 1 :=
  let main_v0 : IVec S255 32 := iotaInDim S255 32 0
  let main_v1 : FVec F S255 .f32 := sitofp .f32 main_v0
  let main_cst : FVec F S_ .f32 := constant S_ .f32 0x42FE0000#32
  let main_v2 : FVec F S255 .f32 := broadcastInDim S255 ![] bcast_S_S255 main_cst
  let main_v3 : FVec F S255 .f32 := subf main_v1 main_v2
  let main_cst_0 : FVec F S_ .f32 := constant S_ .f32 0x40800000#32
  let main_v4 : FVec F S255 .f32 := broadcastInDim S255 ![] bcast_S_S255 main_cst_0
  let main_v5 : FVec F S255 .f32 := mulf main_v3 main_v4
  let main_cst_1 : FVec F S_ .f32 := constant S_ .f32 0x42FE0000#32
  let main_v6 : FVec F S255 .f32 := broadcastInDim S255 ![] bcast_S_S255 main_cst_1
  let main_v7 : FVec F S255 .f32 := Host.divf main_v5 main_v6
  let main_v8 : IVec S255 1 := cmpf .oeq main_arg1 main_v7
  main_v8
-- ==== Kernel.lean ====
abbrev S33554432 : Shape := ⟨1, ![33554432]⟩
abbrev S255 : Shape := ⟨1, ![255]⟩
abbrev S16384 : Shape := ⟨1, ![16384]⟩
abbrev S_ : Shape := ⟨0, ![]⟩
abbrev S16 : Shape := ⟨1, ![16]⟩

abbrev nBuf : Table → Nat
  | .hbm => 3
  | .local .scVector .vmem => 6
  | _ => 0

abbrev bufTy : (tb : Table) → Fin (nBuf tb) → BufTy
  | .hbm, ⟨0, _⟩ => ⟨S33554432, .f32⟩
  | .hbm, ⟨1, _⟩ => ⟨S255, .f32⟩
  | .hbm, ⟨2, _⟩ => ⟨S33554432, .i32⟩
  | .local .scVector .vmem, ⟨0, _⟩ => ⟨S16384, .f32⟩
  | .local .scVector .vmem, ⟨1, _⟩ => ⟨S16384, .f32⟩
  | .local .scVector .vmem, ⟨2, _⟩ => ⟨S16384, .f32⟩
  | .local .scVector .vmem, ⟨3, _⟩ => ⟨S16384, .f32⟩
  | .local .scVector .vmem, ⟨4, _⟩ => ⟨S16384, .i32⟩
  | .local .scVector .vmem, ⟨5, _⟩ => ⟨S16384, .i32⟩
  | _, _ => ⟨S33554432, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1048576_i32 : BitVec 32 := 1048576#32
  let v2 : BitVec 32 := Scalar.muli v1 c1048576_i32
  let v3 : BitVec 32 := Scalar.addi v2 c0_i32
  ![v3.toNat]
def k0_off1_at (r : Fin 14) : BitVec 32 :=
  if r.val < 7 then
    if r.val < 3 then
      if r.val < 1 then
        0#32
      else
        if r.val < 2 then
          16384#32
        else
          32768#32
    else
      if r.val < 5 then
        if r.val < 4 then
          49152#32
        else
          65536#32
      else
        if r.val < 6 then
          81920#32
        else
          98304#32
  else
    if r.val < 10 then
      if r.val < 8 then
        114688#32
      else
        if r.val < 9 then
          983040#32
        else
          950272#32
    else
      if r.val < 12 then
        if r.val < 11 then
          999424#32
        else
          966656#32
      else
        if r.val < 13 then
          1015808#32
        else
          1032192#32
@[reducible] def k0_t1_loop : Scf.Loop 32 :=
  let c0_i32_1 : BitVec 32 := 0#32
  let c1024_i32 : BitVec 32 := 1024#32
  let v18 : BitVec 32 := Scalar.addi c0_i32_1 c1024_i32
  let c1_i32 : BitVec 32 := 1#32
  ⟨c0_i32_1, v18, c1_i32⟩
def k0_off2 (k0_t1 : Fin k0_t1_loop.trips) : Fin 1 → Nat :=
  let c0_i32_53 : BitVec 32 := 0#32
  let c0_i32_1 : BitVec 32 := 0#32
  let c1_i32 : BitVec 32 := 1#32
  let arg17 : BitVec 32 := Scf.iv c0_i32_1 c1_i32 k0_t1
  let c1_i32_52 : BitVec 32 := 1#32
  let v108 : BitVec 32 := Scalar.muli arg17 c1_i32_52
  let v109 : BitVec 32 := Scalar.addi c0_i32_53 v108
  let c16_i32_54 : BitVec 32 := 16#32
  let v110 : BitVec 32 := Scalar.muli v109 c16_i32_54
  let v111 : Index := Scalar.indexCast v110
  ![v111.toNat]
@[reducible] def k0_t2_loop : Scf.Loop 32 :=
  let c0_i32_5 : BitVec 32 := 0#32
  let c1024_i32_6 : BitVec 32 := 1024#32
  let v28 : BitVec 32 := Scalar.addi c0_i32_5 c1024_i32_6
  let c1_i32_7 : BitVec 32 := 1#32
  ⟨c0_i32_5, v28, c1_i32_7⟩
def k0_off3 (k0_t2 : Fin k0_t2_loop.trips) : Fin 1 → Nat :=
  let c0_i32_53 : BitVec 32 := 0#32
  let c0_i32_5 : BitVec 32 := 0#32
  let c1_i32_7 : BitVec 32 := 1#32
  let arg17 : BitVec 32 := Scf.iv c0_i32_5 c1_i32_7 k0_t2
  let c1_i32_52 : BitVec 32 := 1#32
  let v108 : BitVec 32 := Scalar.muli arg17 c1_i32_52
  let v109 : BitVec 32 := Scalar.addi c0_i32_53 v108
  let c16_i32_54 : BitVec 32 := 16#32
  let v110 : BitVec 32 := Scalar.muli v109 c16_i32_54
  let v111 : Index := Scalar.indexCast v110
  ![v111.toNat]
@[reducible] def k0_t3_loop : Scf.Loop 32 :=
  let c0_i32_12 : BitVec 32 := 0#32
  let c1024_i32_13 : BitVec 32 := 1024#32
  let v41 : BitVec 32 := Scalar.addi c0_i32_12 c1024_i32_13
  let c1_i32_14 : BitVec 32 := 1#32
  ⟨c0_i32_12, v41, c1_i32_14⟩
def k0_off4 (k0_t3 : Fin k0_t3_loop.trips) : Fin 1 → Nat :=
  let c0_i32_53 : BitVec 32 := 0#32
  let c0_i32_12 : BitVec 32 := 0#32
  let c1_i32_14 : BitVec 32 := 1#32
  let arg17 : BitVec 32 := Scf.iv c0_i32_12 c1_i32_14 k0_t3
  let c1_i32_52 : BitVec 32 := 1#32
  let v108 : BitVec 32 := Scalar.muli arg17 c1_i32_52
  let v109 : BitVec 32 := Scalar.addi c0_i32_53 v108
  let c16_i32_54 : BitVec 32 := 16#32
  let v110 : BitVec 32 := Scalar.muli v109 c16_i32_54
  let v111 : Index := Scalar.indexCast v110
  ![v111.toNat]
@[reducible] def k0_t4_loop : Scf.Loop 32 :=
  let c0_i32_19 : BitVec 32 := 0#32
  let c1024_i32_20 : BitVec 32 := 1024#32
  let v54 : BitVec 32 := Scalar.addi c0_i32_19 c1024_i32_20
  let c1_i32_21 : BitVec 32 := 1#32
  ⟨c0_i32_19, v54, c1_i32_21⟩
def k0_off5 (k0_t4 : Fin k0_t4_loop.trips) : Fin 1 → Nat :=
  let c0_i32_53 : BitVec 32 := 0#32
  let c0_i32_19 : BitVec 32 := 0#32
  let c1_i32_21 : BitVec 32 := 1#32
  let arg17 : BitVec 32 := Scf.iv c0_i32_19 c1_i32_21 k0_t4
  let c1_i32_52 : BitVec 32 := 1#32
  let v108 : BitVec 32 := Scalar.muli arg17 c1_i32_52
  let v109 : BitVec 32 := Scalar.addi c0_i32_53 v108
  let c16_i32_54 : BitVec 32 := 16#32
  let v110 : BitVec 32 := Scalar.muli v109 c16_i32_54
  let v111 : Index := Scalar.indexCast v110
  ![v111.toNat]
@[reducible] def k0_t5_loop : Scf.Loop 32 :=
  let c1_i32_25 : BitVec 32 := 1#32
  let c14_i32 : BitVec 32 := 14#32
  let v61 : BitVec 32 := Scalar.addi c1_i32_25 c14_i32
  let c1_i32_26 : BitVec 32 := 1#32
  ⟨c1_i32_25, v61, c1_i32_26⟩
def k0_off6 (i : grid0.Coords) (k0_t5 : Fin k0_t5_loop.trips) (c0_i32_52 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1048576_i32 : BitVec 32 := 1048576#32
  let v2 : BitVec 32 := Scalar.muli v1 c1048576_i32
  let c4_i32 : BitVec 32 := 4#32
  let c1_i32_25 : BitVec 32 := 1#32
  let c1_i32_26 : BitVec 32 := 1#32
  let arg17 : BitVec 32 := Scf.iv c1_i32_25 c1_i32_26 k0_t5
  let v108 : BitVec 32 := Scalar.muli c4_i32 arg17
  let v109 : BitVec 32 := Scalar.addi v108 c0_i32_52
  let c16384_i32_53 : BitVec 32 := 16384#32
  let v110 : BitVec 32 := Scalar.muli v109 c16384_i32_53
  let v111 : BitVec 32 := Scalar.addi v2 v110
  ![v111.toNat]
def k0_off7 (i : grid0.Coords) (k0_t5 : Fin k0_t5_loop.trips) (c0_i32_52 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1048576_i32 : BitVec 32 := 1048576#32
  let v2 : BitVec 32 := Scalar.muli v1 c1048576_i32
  let c4_i32 : BitVec 32 := 4#32
  let c1_i32_25 : BitVec 32 := 1#32
  let c1_i32_26 : BitVec 32 := 1#32
  let arg17 : BitVec 32 := Scf.iv c1_i32_25 c1_i32_26 k0_t5
  let v108 : BitVec 32 := Scalar.muli c4_i32 arg17
  let v109 : BitVec 32 := Scalar.addi v108 c0_i32_52
  let c2_i32 : BitVec 32 := 2#32
  let v114 : BitVec 32 := Scalar.subi v109 c2_i32
  let c16384_i32_54 : BitVec 32 := 16384#32
  let v115 : BitVec 32 := Scalar.muli v114 c16384_i32_54
  let v116 : BitVec 32 := Scalar.addi v2 v115
  ![v116.toNat]
@[reducible] def k0_t6_loop : Scf.Loop 32 :=
  let c0_i32_55 : BitVec 32 := 0#32
  let c1024_i32_56 : BitVec 32 := 1024#32
  let v119 : BitVec 32 := Scalar.addi c0_i32_55 c1024_i32_56
  let c1_i32_57 : BitVec 32 := 1#32
  ⟨c0_i32_55, v119, c1_i32_57⟩
def k0_off8 (k0_t6 : Fin k0_t6_loop.trips) : Fin 1 → Nat :=
  let c0_i32_98 : BitVec 32 := 0#32
  let c0_i32_55 : BitVec 32 := 0#32
  let c1_i32_57 : BitVec 32 := 1#32
  let arg18 : BitVec 32 := Scf.iv c0_i32_55 c1_i32_57 k0_t6
  let c1_i32_97 : BitVec 32 := 1#32
  let v192 : BitVec 32 := Scalar.muli arg18 c1_i32_97
  let v193 : BitVec 32 := Scalar.addi c0_i32_98 v192
  let c16_i32_99 : BitVec 32 := 16#32
  let v194 : BitVec 32 := Scalar.muli v193 c16_i32_99
  let v195 : Index := Scalar.indexCast v194
  ![v195.toNat]
def k0_off9 (i : grid0.Coords) (k0_t5 : Fin k0_t5_loop.trips) (c0_i32_52 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1048576_i32 : BitVec 32 := 1048576#32
  let v2 : BitVec 32 := Scalar.muli v1 c1048576_i32
  let c4_i32 : BitVec 32 := 4#32
  let c1_i32_25 : BitVec 32 := 1#32
  let c1_i32_26 : BitVec 32 := 1#32
  let arg17 : BitVec 32 := Scf.iv c1_i32_25 c1_i32_26 k0_t5
  let v108 : BitVec 32 := Scalar.muli c4_i32 arg17
  let v109 : BitVec 32 := Scalar.addi v108 c0_i32_52
  let c4_i32_60 : BitVec 32 := 4#32
  let v124 : BitVec 32 := Scalar.addi v109 c4_i32_60
  let c16384_i32_61 : BitVec 32 := 16384#32
  let v125 : BitVec 32 := Scalar.muli v124 c16384_i32_61
  let v126 : BitVec 32 := Scalar.addi v2 v125
  ![v126.toNat]
@[reducible] def k0_t7_loop : Scf.Loop 32 :=
  let c0_i32_67 : BitVec 32 := 0#32
  let c1024_i32_68 : BitVec 32 := 1024#32
  let v140 : BitVec 32 := Scalar.addi c0_i32_67 c1024_i32_68
  let c1_i32_69 : BitVec 32 := 1#32
  ⟨c0_i32_67, v140, c1_i32_69⟩
def k0_off10 (k0_t7 : Fin k0_t7_loop.trips) : Fin 1 → Nat :=
  let c0_i32_98 : BitVec 32 := 0#32
  let c0_i32_67 : BitVec 32 := 0#32
  let c1_i32_69 : BitVec 32 := 1#32
  let arg18 : BitVec 32 := Scf.iv c0_i32_67 c1_i32_69 k0_t7
  let c1_i32_97 : BitVec 32 := 1#32
  let v192 : BitVec 32 := Scalar.muli arg18 c1_i32_97
  let v193 : BitVec 32 := Scalar.addi c0_i32_98 v192
  let c16_i32_99 : BitVec 32 := 16#32
  let v194 : BitVec 32 := Scalar.muli v193 c16_i32_99
  let v195 : Index := Scalar.indexCast v194
  ![v195.toNat]
@[reducible] def k0_t8_loop : Scf.Loop 32 :=
  let c0_i32_79 : BitVec 32 := 0#32
  let c1024_i32_80 : BitVec 32 := 1024#32
  let v161 : BitVec 32 := Scalar.addi c0_i32_79 c1024_i32_80
  let c1_i32_81 : BitVec 32 := 1#32
  ⟨c0_i32_79, v161, c1_i32_81⟩
def k0_off11 (k0_t8 : Fin k0_t8_loop.trips) : Fin 1 → Nat :=
  let c0_i32_98 : BitVec 32 := 0#32
  let c0_i32_79 : BitVec 32 := 0#32
  let c1_i32_81 : BitVec 32 := 1#32
  let arg18 : BitVec 32 := Scf.iv c0_i32_79 c1_i32_81 k0_t8
  let c1_i32_97 : BitVec 32 := 1#32
  let v192 : BitVec 32 := Scalar.muli arg18 c1_i32_97
  let v193 : BitVec 32 := Scalar.addi c0_i32_98 v192
  let c16_i32_99 : BitVec 32 := 16#32
  let v194 : BitVec 32 := Scalar.muli v193 c16_i32_99
  let v195 : Index := Scalar.indexCast v194
  ![v195.toNat]
@[reducible] def k0_t9_loop : Scf.Loop 32 :=
  let c0_i32_90 : BitVec 32 := 0#32
  let c1024_i32_91 : BitVec 32 := 1024#32
  let v182 : BitVec 32 := Scalar.addi c0_i32_90 c1024_i32_91
  let c1_i32_92 : BitVec 32 := 1#32
  ⟨c0_i32_90, v182, c1_i32_92⟩
def k0_off12 (k0_t9 : Fin k0_t9_loop.trips) : Fin 1 → Nat :=
  let c0_i32_98 : BitVec 32 := 0#32
  let c0_i32_90 : BitVec 32 := 0#32
  let c1_i32_92 : BitVec 32 := 1#32
  let arg18 : BitVec 32 := Scf.iv c0_i32_90 c1_i32_92 k0_t9
  let c1_i32_97 : BitVec 32 := 1#32
  let v192 : BitVec 32 := Scalar.muli arg18 c1_i32_97
  let v193 : BitVec 32 := Scalar.addi c0_i32_98 v192
  let c16_i32_99 : BitVec 32 := 16#32
  let v194 : BitVec 32 := Scalar.muli v193 c16_i32_99
  let v195 : Index := Scalar.indexCast v194
  ![v195.toNat]
@[reducible] def k0_t10_loop : Scf.Loop 32 :=
  let c0_i32_28 : BitVec 32 := 0#32
  let c1024_i32_29 : BitVec 32 := 1024#32
  let v68 : BitVec 32 := Scalar.addi c0_i32_28 c1024_i32_29
  let c1_i32_30 : BitVec 32 := 1#32
  ⟨c0_i32_28, v68, c1_i32_30⟩
def k0_off13 (k0_t10 : Fin k0_t10_loop.trips) : Fin 1 → Nat :=
  let c0_i32_53 : BitVec 32 := 0#32
  let c0_i32_28 : BitVec 32 := 0#32
  let c1_i32_30 : BitVec 32 := 1#32
  let arg17 : BitVec 32 := Scf.iv c0_i32_28 c1_i32_30 k0_t10
  let c1_i32_52 : BitVec 32 := 1#32
  let v108 : BitVec 32 := Scalar.muli arg17 c1_i32_52
  let v109 : BitVec 32 := Scalar.addi c0_i32_53 v108
  let c16_i32_54 : BitVec 32 := 16#32
  let v110 : BitVec 32 := Scalar.muli v109 c16_i32_54
  let v111 : Index := Scalar.indexCast v110
  ![v111.toNat]
@[reducible] def k0_t11_loop : Scf.Loop 32 :=
  let c0_i32_33 : BitVec 32 := 0#32
  let c1024_i32_34 : BitVec 32 := 1024#32
  let v78 : BitVec 32 := Scalar.addi c0_i32_33 c1024_i32_34
  let c1_i32_35 : BitVec 32 := 1#32
  ⟨c0_i32_33, v78, c1_i32_35⟩
def k0_off14 (k0_t11 : Fin k0_t11_loop.trips) : Fin 1 → Nat :=
  let c0_i32_53 : BitVec 32 := 0#32
  let c0_i32_33 : BitVec 32 := 0#32
  let c1_i32_35 : BitVec 32 := 1#32
  let arg17 : BitVec 32 := Scf.iv c0_i32_33 c1_i32_35 k0_t11
  let c1_i32_52 : BitVec 32 := 1#32
  let v108 : BitVec 32 := Scalar.muli arg17 c1_i32_52
  let v109 : BitVec 32 := Scalar.addi c0_i32_53 v108
  let c16_i32_54 : BitVec 32 := 16#32
  let v110 : BitVec 32 := Scalar.muli v109 c16_i32_54
  let v111 : Index := Scalar.indexCast v110
  ![v111.toNat]
@[reducible] def k0_t12_loop : Scf.Loop 32 :=
  let c0_i32_39 : BitVec 32 := 0#32
  let c1024_i32_40 : BitVec 32 := 1024#32
  let v88 : BitVec 32 := Scalar.addi c0_i32_39 c1024_i32_40
  let c1_i32_41 : BitVec 32 := 1#32
  ⟨c0_i32_39, v88, c1_i32_41⟩
def k0_off15 (k0_t12 : Fin k0_t12_loop.trips) : Fin 1 → Nat :=
  let c0_i32_53 : BitVec 32 := 0#32
  let c0_i32_39 : BitVec 32 := 0#32
  let c1_i32_41 : BitVec 32 := 1#32
  let arg17 : BitVec 32 := Scf.iv c0_i32_39 c1_i32_41 k0_t12
  let c1_i32_52 : BitVec 32 := 1#32
  let v108 : BitVec 32 := Scalar.muli arg17 c1_i32_52
  let v109 : BitVec 32 := Scalar.addi c0_i32_53 v108
  let c16_i32_54 : BitVec 32 := 16#32
  let v110 : BitVec 32 := Scalar.muli v109 c16_i32_54
  let v111 : Index := Scalar.indexCast v110
  ![v111.toNat]
@[reducible] def k0_t13_loop : Scf.Loop 32 :=
  let c0_i32_45 : BitVec 32 := 0#32
  let c1024_i32_46 : BitVec 32 := 1024#32
  let v98 : BitVec 32 := Scalar.addi c0_i32_45 c1024_i32_46
  let c1_i32_47 : BitVec 32 := 1#32
  ⟨c0_i32_45, v98, c1_i32_47⟩
def k0_off16 (k0_t13 : Fin k0_t13_loop.trips) : Fin 1 → Nat :=
  let c0_i32_53 : BitVec 32 := 0#32
  let c0_i32_45 : BitVec 32 := 0#32
  let c1_i32_47 : BitVec 32 := 1#32
  let arg17 : BitVec 32 := Scf.iv c0_i32_45 c1_i32_47 k0_t13
  let c1_i32_52 : BitVec 32 := 1#32
  let v108 : BitVec 32 := Scalar.muli arg17 c1_i32_52
  let v109 : BitVec 32 := Scalar.addi c0_i32_53 v108
  let c16_i32_54 : BitVec 32 := 16#32
  let v110 : BitVec 32 := Scalar.muli v109 c16_i32_54
  let v111 : Index := Scalar.indexCast v110
  ![v111.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S33554432 : Shape := ⟨1, ![33554432]⟩
abbrev S255 : Shape := ⟨1, ![255]⟩
abbrev S1x255 : Shape := ⟨2, ![1, 255]⟩
abbrev S33554432x1 : Shape := ⟨2, ![33554432, 1]⟩
abbrev S33554432x255 : Shape := ⟨2, ![33554432, 255]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S255, .f32⟩
  | .hbm, ⟨2, _⟩ => ⟨S1x255, .f32⟩
  | .hbm, ⟨3, _⟩ => ⟨S33554432x1, .f32⟩
  | .hbm, ⟨4, _⟩ => ⟨S33554432x255, .f32⟩
  | .hbm, ⟨5, _⟩ => ⟨S33554432x255, .f32⟩
  | .hbm, ⟨6, _⟩ => ⟨S33554432x255, .i1⟩
  | .hbm, ⟨7, _⟩ => ⟨S33554432x255, .i32⟩
  | .hbm, ⟨8, _⟩ => ⟨S_, .i32⟩
  | .hbm, ⟨9, _⟩ => ⟨S33554432, .i32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ReferenceRightIdeal.lean ====
abbrev S33554432 : Shape := ⟨1, ![33554432]⟩
abbrev S255 : Shape := ⟨1, ![255]⟩
abbrev S1x255 : Shape := ⟨2, ![1, 255]⟩
abbrev S33554432x1 : Shape := ⟨2, ![33554432, 1]⟩
abbrev S33554432x255 : Shape := ⟨2, ![33554432, 255]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S255, .f32⟩
  | .hbm, ⟨2, _⟩ => ⟨S1x255, .f32⟩
  | .hbm, ⟨3, _⟩ => ⟨S33554432x1, .f32⟩
  | .hbm, ⟨4, _⟩ => ⟨S33554432x255, .f32⟩
  | .hbm, ⟨5, _⟩ => ⟨S33554432x255, .f32⟩
  | .hbm, ⟨6, _⟩ => ⟨S33554432x255, .i1⟩
  | .hbm, ⟨7, _⟩ => ⟨S33554432x255, .i32⟩
  | .hbm, ⟨8, _⟩ => ⟨S_, .i32⟩
  | .hbm, ⟨9, _⟩ => ⟨S33554432, .i32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelSync.lean ====
abbrev S33554432 : Shape := ⟨1, ![33554432]⟩
abbrev S255 : Shape := ⟨1, ![255]⟩
abbrev S16384 : Shape := ⟨1, ![16384]⟩
abbrev S_ : Shape := ⟨0, ![]⟩
abbrev S16 : Shape := ⟨1, ![16]⟩

abbrev nBuf : Table → Nat
  | .hbm => 3
  | .local .scVector .vmem => 2
  | _ => 0

abbrev bufTy : (tb : Table) → Fin (nBuf tb) → BufTy
  | .hbm, ⟨0, _⟩ => ⟨S33554432, .f32⟩
  | .hbm, ⟨1, _⟩ => ⟨S255, .f32⟩
  | .hbm, ⟨2, _⟩ => ⟨S33554432, .i32⟩
  | .local .scVector .vmem, ⟨0, _⟩ => ⟨S16384, .f32⟩
  | .local .scVector .vmem, ⟨1, _⟩ => ⟨S16384, .i32⟩
  | _, _ => ⟨S33554432, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c64_i32 : BitVec 32 := 64#32
  let v3 : BitVec 32 := Scalar.addi c0_i32_0 c64_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1048576_i32 : BitVec 32 := 1048576#32
  let v2 : BitVec 32 := Scalar.muli v1 c1048576_i32
  let c0_i32_0 : BitVec 32 := 0#32
  let c1_i32 : BitVec 32 := 1#32
  let arg7 : BitVec 32 := Scf.iv c0_i32_0 c1_i32 k0_t1
  let c16384_i32 : BitVec 32 := 16384#32
  let v4 : BitVec 32 := Scalar.muli arg7 c16384_i32
  let v5 : BitVec 32 := Scalar.addi v2 v4
  ![v5.toNat]
@[reducible] def k0_t2_loop : Scf.Loop 32 :=
  let c0_i32_3 : BitVec 32 := 0#32
  let c1024_i32 : BitVec 32 := 1024#32
  let v6 : BitVec 32 := Scalar.addi c0_i32_3 c1024_i32
  let c1_i32_4 : BitVec 32 := 1#32
  ⟨c0_i32_3, v6, c1_i32_4⟩
def k0_off2 (k0_t2 : Fin k0_t2_loop.trips) : Fin 1 → Nat :=
  let c0_i32_3 : BitVec 32 := 0#32
  let c1_i32_4 : BitVec 32 := 1#32
  let arg8 : BitVec 32 := Scf.iv c0_i32_3 c1_i32_4 k0_t2
  let c16_i32 : BitVec 32 := 16#32
  let v7 : BitVec 32 := Scalar.muli arg8 c16_i32
  let v8 : Index := Scalar.indexCast v7
  ![v8.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Proof.Base.lean ====
/-
  What the run of the kernel is stated over: the program as the launch theorem sees it, the launch memory's arrays,
  the chunks a tile works through, and the element function the inner loop applies.

  A tile's part of `o` (and of the result) is 64 chunks of 16384 elements in a row. `span L a b` is the elements of
  tile `L`'s chunks from `a` up to `b`; the pieces a copy takes out of the array and the pieces it brings back are
  spans, split and joined at chunk borders.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Value
public import Idealize.ShloMosaic.Lib.Pipeline.Kit
public import Idealize.ShloMosaic.Lib.Transfers
public import Idealize.ShloMosaic.Lib.Tactic
public import proofs.«01_k».proof.Proof.Gen.KernelIdeal
public import proofs.«01_k».proof.Proof.Gen.KernelIdeal.Skeleton

@[expose] public section

noncomputable section

namespace Cert.Proof.Quant

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EC : UEmb Counters (MT nD τ sig (HIx 1) (Elt F) ℕ UU ℕ) := countersEmb

/-- `o`, the bin edges and the result, as locations of device `d`. -/
abbrev oLoc (d : Dev nD) : Loc nD τ sig := (SparseCore.T d).loc main_arg0
abbrev bLoc (d : Dev nD) : Loc nD τ sig := (SparseCore.T d).loc main_arg1
abbrev rLoc (d : Dev nD) : Loc nD τ sig := (SparseCore.T d).loc main_v0

abbrev oV : Memref sig .scVector .hbm S33554432 .f32 := Memref.whole main_arg0_scv
abbrev bV : Memref sig .scVector .hbm S255 .f32 := Memref.whole main_arg1_scv
abbrev rV : Memref sig .scVector .hbm S33554432 .i32 := Memref.whole main_v0_scv

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-! ## Chunks -/

/-- The first element of tile `L`'s part. -/
def base (L : grid0.Coords) : ℕ := 16777216 * (L 0).val + 1048576 * (L 1).val

theorem base_le (L : grid0.Coords) : base L + 1048576 ≤ 33554432 := by
  have h0 : (L 0).val < 2 := (L 0).isLt
  have h1 : (L 1).val < 16 := (L 1).isLt
  unfold base; omega

/-- Where chunk `g` of tile `L` starts. -/
def coff (L : grid0.Coords) (g : ℕ) : Fin 1 → ℕ := ![base L + 16384 * g]

/-- The elements of tile `L`'s chunks from `a` up to `b`. -/
def span (L : grid0.Coords) (a b : ℕ) : Finset S33554432.Idx :=
  Finset.univ.filter fun i => base L + 16384 * a ≤ (i 0).val ∧ (i 0).val < base L + 16384 * b

theorem mem_span {L : grid0.Coords} {a b : ℕ} {i : S33554432.Idx} :
    i ∈ span L a b ↔ base L + 16384 * a ≤ (i 0).val ∧ (i 0).val < base L + 16384 * b := by
  unfold span; rw [Finset.mem_filter]; exact ⟨fun h => h.2, fun h => ⟨Finset.mem_univ _, h⟩⟩

theorem span_union (L : grid0.Coords) {a b c : ℕ} (h : a ≤ b) (h' : b ≤ c) : span L a c = span L a b ∪ span L b c := by
  ext i; rw [Finset.mem_union, mem_span, mem_span, mem_span]; omega

theorem span_disjoint (L : grid0.Coords) (a b c : ℕ) : Disjoint (span L a b) (span L b c) := by
  refine Finset.disjoint_left.mpr fun i h h' => ?_
  rw [mem_span] at h h'; omega

theorem span_self (L : grid0.Coords) (a : ℕ) : span L a a = ∅ := by
  refine Finset.eq_empty_of_forall_notMem fun i h => ?_
  rw [mem_span] at h; omega

/-- Element `j` of chunk `g` of tile `L`. -/
def cidx (L : grid0.Coords) (g : ℕ) (j : S16384.Idx) : S33554432.Idx :=
  fun a => match a with | 0 => (⟨(base L + 16384 * g + (j 0).val) % 33554432, Nat.mod_lt _ (by decide)⟩ : Fin 33554432)

theorem cidx_val (L : grid0.Coords) {g : ℕ} (hg : g < 64) (j : S16384.Idx) : ((cidx L g j) 0).val = base L + 16384 * g + (j 0).val := by
  have hj : (j 0).val < 16384 := (j 0).isLt
  have hb := base_le L
  show (base L + 16384 * g + (j 0).val) % 33554432 = _
  exact Nat.mod_eq_of_lt (by omega)

/-- A piece of `o` or of the result as a copy slices it, at chunk `g`: the elements it names, -/
theorem set_chunk {e : EltTy} (A : Memref sig .scVector .hbm S33554432 e) (L : grid0.Coords) {g : ℕ} {off : Fin 1 → ℕ} (h : off = coff L g)
    (inb : ∀ a, off a + S16384.size a ≤ S33554432.size a) :
    (A.slice (Rect.unit (s := S33554432) off S16384.size inb) (fun _ => rfl)).view.set = (span L g (g + 1)).map A.view.emb := by
  subst h
  have key : (Rect.unit (s := S33554432) (coff L g) S16384.size inb).set = span L g (g + 1) := ?_
  · show (A.view.slice _).set = _
    rw [View.set_slice, key]
  ext i
  rw [Rect.mem_set_unit, mem_span]
  constructor
  · intro h
    have p : base L + 16384 * g ≤ (i 0).val := (h 0).1
    have q : (i 0).val < base L + 16384 * g + 16384 := (h 0).2
    exact ⟨p, lt_of_lt_of_eq q (by rw [Nat.mul_add, Nat.add_assoc])⟩
  · intro h a
    obtain rfl : a = 0 := Subsingleton.elim _ _
    have q : (i 0).val < base L + 16384 * g + 16384 := lt_of_lt_of_eq h.2 (by rw [Nat.mul_add, Nat.add_assoc])
    exact ⟨h.1, q⟩

/-- and which element its `j`th is. -/
theorem emb_chunk {e : EltTy} (A : Memref sig .scVector .hbm S33554432 e) (L : grid0.Coords) {g : ℕ} (hg : g < 64) {off : Fin 1 → ℕ} (h : off = coff L g)
    (inb : ∀ a, off a + S16384.size a ≤ S33554432.size a) (j : S16384.Idx) :
    (A.slice (Rect.unit (s := S33554432) off S16384.size inb) (fun _ => rfl)).view.emb j = A.view.emb (cidx L g j) := by
  subst h
  show A.view.emb ((Rect.unit (s := S33554432) (coff L g) S16384.size inb).emb j) = _
  congr 1
  funext a
  obtain rfl : a = 0 := Subsingleton.elim _ _
  apply Fin.ext
  rw [Rect.emb_apply, cidx_val L hg]
  show base L + 16384 * g + 1 * (j 0).val = _
  omega

/-! ## The offsets the program computes -/

theorem off1_coff (L : grid0.Coords) (c : BitVec 32) (g : ℕ) (hc : c.toNat = 16384 * g) (hg : g < 64) : k0_off1 L c = coff L g := by
  have h0 : (L 0).val < 2 := (L 0).isLt
  have h1 : (L 1).val < 16 := (L 1).isLt
  unfold k0_off1 coff base
  simp only [Scalar.addi, Scalar.muli, IntOp.addi, IntOp.muli]
  congr 1
  rw [BitVec.toNat_add, BitVec.toNat_mul, BitVec.toNat_add, BitVec.toNat_mul, BitVec.toNat_ofNat, BitVec.toNat_ofNat, hc]
  simp only [BitVec.toNat_ofNat]
  omega

theorem trips5 (t : Fin k0_t5_loop.trips) : t.val < 14 := Nat.lt_of_lt_of_le t.isLt k0_t5_abs.2.1

theorem off6_coff (L : grid0.Coords) (t : Fin k0_t5_loop.trips) (r : Fin 4) :
    k0_off6 L t (BitVec.ofNat 32 r.val) = coff L (4 * t.val + 4 + r.val) := by
  rw [k0_off6_eq]; unfold coff base; congr 1; omega
theorem off7_coff (L : grid0.Coords) (t : Fin k0_t5_loop.trips) (r : Fin 4) :
    k0_off7 L t (BitVec.ofNat 32 r.val) = coff L (4 * t.val + 2 + r.val) := by
  rw [k0_off7_eq]; unfold coff base; congr 1; omega
theorem off9_coff (L : grid0.Coords) (t : Fin k0_t5_loop.trips) (r : Fin 4) :
    k0_off9 L t (BitVec.ofNat 32 r.val) = coff L (4 * t.val + 8 + r.val) := by
  rw [k0_off9_eq]; unfold coff base; congr 1; omega

/-! ## What the inner loop computes -/

variable [FloatOps F]

/-- An index of a vector of sixteen. -/
def zix : S16.Idx := fun a => match a with | 0 => (⟨0, by decide⟩ : Fin 16)

/-- The bin the kernel puts an element in. -/
def bk (x : F .f32) : BitVec 32 := k0_pay1 (fun _ => x) zix

theorem pay1_apply (v : Vec F S16 .f32) (j : S16.Idx) : k0_pay1 v j = bk (v j) := by
  unfold bk k0_pay1
  simp only [shapeCast_self]
  rfl

variable (m : (ℓ : Loc nD τ sig) → Buf (Elt F) ℓ)

/-- The result the kernel leaves. -/
def OUT (d : Dev nD) : Buf (Elt F) (rLoc d) := fun i => bk (F := F) (m (oLoc d) i)

/-- Chunk `g` of tile `L`, as a buffer of the tile holds it, and the bins of its elements. -/
def XC (d : Dev nD) (L : grid0.Coords) (g : ℕ) : S16384.Idx → Elt F .f32 := fun j => m (oLoc d) (cidx L g j)
def YC (d : Dev nD) (L : grid0.Coords) (g : ℕ) : S16384.Idx → Elt F .i32 := fun j => bk (F := F) (m (oLoc d) (cidx L g j))

end Cert.Proof.Quant
end
-- ==== Proof.Steps.lean ====
/-
  One rule per kind of step a tile takes: a chunk's fetch issued and waited for, a chunk's write-out issued and waited
  for. What a buffer holds is stated by what reading it gives (`Holds`), so a rule serves every buffer.
-/
module

public import proofs.«01_k».proof.Proof.Base

@[expose] public section

noncomputable section

namespace Cert.Proof.Quant

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Rounds

variable {F : FTy → Type} [FloatOps F]

local notation "𝕄" => MT nD τ sig (HIx 1) (Elt F) ℕ UU ℕ

variable (m : (ℓ : Loc nD τ sig) → Buf (Elt F) ℓ) (d : Dev nD) (L : grid0.Coords)

/-! ## What is held between steps -/

/-- A buffer of the tile, reading `X`. -/
def Holds {e : EltTy} (xM : Memref sig .scVector .vmem S16384 e) (X : S16384.Idx → Elt F e) : sProp 𝕄 :=
  iprop(∃ f : Buf (Elt F) (xM.view.loc (thr d L)), ⌜xM.view.read (Elt F) f = X⌝ ∗ xM.view.loc (thr d L) ↦[xM.view.set]{fullShare} f)

/-- A buffer of the tile, at some contents. -/
def Some {e : EltTy} (xM : Memref sig .scVector .vmem S16384 e) : sProp 𝕄 := iprop(∃ X, Holds (F := F) d L xM X)

/-- The tile's chunks of `o` from `a` up to `b`, -/
def inPt (a b : ℕ) : sProp 𝕄 := oLoc d ↦[span L a b]{fullShare} m (oLoc d)
/-- and of the result, at contents `f`. -/
def outPt (f : Buf (Elt F) (rLoc d)) (a b : ℕ) : sProp 𝕄 := rLoc d ↦[span L a b]{fullShare} f

/-- A fetch of chunk `g` into `xM`, under way on `sem`. -/
def FlI (xM : Memref sig .scVector .vmem S16384 .f32) (sem : DmaSem sig) (g : ℕ) : sProp 𝕄 :=
  Transfers.Flight EC (thr d L) (.dma sem) none xM.view.dmaCredit iprop(Holds d L xM (XC m d L g) ∗ inPt m d L g (g + 1))

/-- The credit of a write-out. -/
def NO : ℕ := (rV.view.ref).dmaCredit S16384 .i32

theorem NO_pos : 0 < NO := sig.dmaCredit_pos _ _ _ _ _ (by decide)

/-- A write-out of chunk `g` from `yM`, under way on `sem`. -/
def FlO (yM : Memref sig .scVector .vmem S16384 .i32) (sem : DmaSem sig) (g : ℕ) : sProp 𝕄 :=
  Transfers.Flight EC (thr d L) (.dma sem) none NO iprop(outPt d L (OUT m d) g (g + 1) ∗ Some (F := F) d L yM)

/-- What the tile owes, `W` grown by waits of its own. -/
def OW (O : CellTallies nD τ sig (HIx 1)) (W : Waits sig (HIx 1)) : sProp 𝕄 :=
  iprop(∃ W', ⌜∀ p ∈ W', p ∈ W ∨ p.2 = none⌝ ∗ owes (thr d L) O W')

theorem pts_union {ℓ : Loc nD τ sig} {I J : Finset (Idx ℓ)} (h : Disjoint I J) (f : Buf (Elt F) ℓ) :
    (ℓ ↦[I ∪ J]{fullShare} f : sProp 𝕄) = iprop((ℓ ↦[I]{fullShare} f) ∗ ℓ ↦[J]{fullShare} f) := by
  have hu : (ℓ ↦[I ∪ J]{fullShare} f : sProp 𝕄) ⊣⊢ iprop((ℓ ↦[I]{fullShare} f) ∗ ℓ ↦[J]{fullShare} f) := pointsTo_union h
  exact BI.equiv_iff.mp ⟨hu.1, hu.2⟩

theorem inPt_split {a b c : ℕ} (h : a ≤ b) (h' : b ≤ c) : inPt m d L a c = iprop(inPt m d L a b ∗ inPt m d L b c) := by
  unfold inPt
  rw [span_union L h h', pts_union (span_disjoint L a b c)]
theorem outPt_split (f : Buf (Elt F) (rLoc d)) {a b c : ℕ} (h : a ≤ b) (h' : b ≤ c) :
    outPt d L f a c = iprop(outPt d L f a b ∗ outPt d L f b c) := by
  unfold outPt
  rw [span_union L h h', pts_union (span_disjoint L a b c)]

abbrev WP {α : Type} (p : Prog (TpuEff nD τ sig (Elt F) Λ₀ (thr d L).2) α) (Q : α → sProp 𝕄) : sProp 𝕄 :=
  wp frame (wpE (defs₀ (F := F)) 𝒱₀ (thr d L) none) Set.univ p Q

variable {α : Type} {Q : α → sProp (MT nD τ sig (HIx 1) (Elt F) ℕ UU ℕ)}

/-! ## Fetches -/

theorem set_in {g : ℕ} {off : Fin 1 → ℕ} (h : off = coff L g) (inb : ∀ a, off a + S16384.size a ≤ S33554432.size a) :
    (oV.slice (Rect.unit (s := S33554432) off S16384.size inb) (fun _ => rfl)).view.set = span L g (g + 1) :=
  (set_chunk oV L h inb).trans Finset.map_refl
theorem set_out {g : ℕ} {off : Fin 1 → ℕ} (h : off = coff L g) (inb : ∀ a, off a + S16384.size a ≤ S33554432.size a) :
    (rV.slice (Rect.unit (s := S33554432) off S16384.size inb) (fun _ => rfl)).view.set = span L g (g + 1) :=
  (set_chunk rV L h inb).trans Finset.map_refl

theorem wp_issueIn (xM : Memref sig .scVector .vmem S16384 .f32) (sem : DmaSem sig) {g : ℕ} (hg : g < 64) {off : Fin 1 → ℕ} (hoff : off = coff L g)
    {inb : ∀ a, off a + S16384.size a ≤ S33554432.size a} {hsrc} {hdst} {hsem}
    {k : PUnit → Prog (TpuEff nD τ sig (Elt F) Λ₀ (thr d L).2) α} :
    iprop(Some (F := F) d L xM ∗ semVal (thr d L, .dma sem) 0 ∗ inPt m d L g 64)
      ⊢ iprop((iprop(FlI m d L xM sem g ∗ inPt m d L (g + 1) 64) -∗ WP d L (k ⟨⟩) Q)
          -∗ WP d L (.op (.enqueueDma (oV.slice (Rect.unit (s := S33554432) off S16384.size inb) (fun _ => rfl)) (.here xM) (.dma sem) hsrc hdst hsem) k) Q) := by
  rw [inPt_split m d L (Nat.le_succ g) (by omega : g + 1 ≤ 64)]
  unfold Some Holds
  iintro ⟨⟨%X, %f, %hf, Hx⟩, Hs, Hc, Ht⟩ Hk
  unfold inPt
  rw [← set_in L hoff inb]
  iapply (Transfers.wp_dmaLocal EC 𝒱₀ (thr d L) none (q := fullShare) (fs := m (oLoc d)) (fd := f) none xM.view.dmaCredit rfl
    (View.dmaCredit_pos _ (by decide)) (Finset.Subset.refl _)) $$ [Hx Hs Hc]
  · isplitl [Hc]; · iexact Hc
    isplitl [Hx]; · iexact Hx
    iexact Hs
  iintro Hfl
  iapply Hk
  isplitl [Hfl]
  · unfold FlI
    iapply (Transfers.Flight_mono EC (thr d L) ?_) $$ Hfl
    unfold Holds inPt
    iintro ⟨Hx, Hc⟩
    isplitl [Hx]
    · iexists _; isplitr
      rotate_left
      · iexact Hx
      · ipureintro
        rw [View.read_write_univ]
        funext j
        show View.read _ _ _ j = _
        rw [View.read_apply, emb_chunk oV L hg hoff inb j]
        rfl
    · rw [← set_in L hoff inb]; iexact Hc
  · iexact Ht

theorem wp_waitIn (xM : Memref sig .scVector .vmem S16384 .f32) (sem : DmaSem sig) (g : ℕ) (O : CellTallies nD τ sig (HIx 1)) (W : Waits sig (HIx 1))
    {s' : Shape} {e' : EltTy} {sp' : Space} {srcw : Memref sig .scVector sp' s' e'} {hsrc : srcw.view.WordExact} {hdst : xM.view.WordExact}
    {k : PUnit → Prog (TpuEff nD τ sig (Elt F) Λ₀ (thr d L).2) α} :
    iprop(Transfers.MayWaits (thr d L) none O ∗ FlI m d L xM sem g ∗ inPt m d L 0 g ∗ OW d L O W)
      ⊢ iprop((iprop(Holds d L xM (XC m d L g) ∗ semVal (thr d L, .dma sem) 0 ∗ inPt m d L 0 (g + 1) ∗ OW d L O W) -∗ WP d L (k ⟨⟩) Q)
          -∗ WP d L (.op (.waitDma2 sem srcw xM hsrc hdst) k) Q) := by
  rw [inPt_split m d L (Nat.zero_le g) (Nat.le_succ g)]
  unfold OW FlI
  iintro ⟨#Hmw, Hfl, Hi, ⟨%W', %hW', HO⟩⟩ Hk
  iapply (Transfers.wp_waitLocalO EC 𝒱₀ (thr d L) none none rfl (W := W')) $$ [Hfl HO]
  · isplitl [Hfl]; · iexact Hfl
    isplitl [HO]; · iexact HO
    iapply (Transfers.MayWaits.elim (SemLoc.dma sem)); iexact Hmw
  iintro ⟨⟨Hx, Hc⟩, Hs, HO⟩
  iapply Hk
  isplitl [Hx]; · iexact Hx
  isplitl [Hs]; · iexact Hs
  isplitl [Hi Hc]
  · isplitl [Hi]; · iexact Hi
    iexact Hc
  iexists _; isplitr
  rotate_left
  · iexact HO
  · ipureintro; intro p hp
    rcases Finset.mem_insert.mp hp with rfl | hp
    · exact .inr rfl
    · exact hW' p hp

/-! ## Write-outs -/

theorem wp_issueOut (yM : Memref sig .scVector .vmem S16384 .i32) (sem : DmaSem sig) {g : ℕ} (hg : g < 64) {off : Fin 1 → ℕ} (hoff : off = coff L g)
    {inb : ∀ a, off a + S16384.size a ≤ S33554432.size a} {hsrc} {hdst} {hsem}
    {k : PUnit → Prog (TpuEff nD τ sig (Elt F) Λ₀ (thr d L).2) α} :
    iprop(Holds d L yM (YC m d L g) ∗ semVal (thr d L, .dma sem) 0 ∗ outPt d L (m (rLoc d)) g 64)
      ⊢ iprop((iprop(FlO m d L yM sem g ∗ outPt d L (m (rLoc d)) (g + 1) 64) -∗ WP d L (k ⟨⟩) Q)
          -∗ WP d L (.op (.enqueueDma yM (.here (rV.slice (Rect.unit (s := S33554432) off S16384.size inb) (fun _ => rfl))) (.dma sem) hsrc hdst hsem) k) Q) := by
  rw [outPt_split d L _ (Nat.le_succ g) (by omega : g + 1 ≤ 64)]
  unfold Holds
  iintro ⟨⟨%f, %hf, Hy⟩, Hs, Hc, Ht⟩ Hk
  unfold outPt
  rw [← set_out L hoff inb]
  iapply (Transfers.wp_dmaLocal EC 𝒱₀ (thr d L) none (q := fullShare) (fs := f) (fd := m (rLoc d)) none NO rfl
    NO_pos (Finset.Subset.refl _)) $$ [Hy Hs Hc]
  · isplitl [Hy]; · iexact Hy
    isplitl [Hc]; · iexact Hc
    iexact Hs
  iintro Hfl
  iapply Hk
  isplitl [Hfl]
  · unfold FlO
    iapply (Transfers.Flight_mono EC (thr d L) ?_) $$ Hfl
    unfold Some Holds outPt
    iintro ⟨Hc, Hy⟩
    isplitl [Hc]
    · rw [← set_out L hoff inb]
      iapply (Entails.of_eq (pointsTo_congr ?_)) $$ Hc
      intro i hi
      obtain ⟨j, rfl⟩ := View.exists_emb_of_mem_set _ hi
      rw [View.write_emb_of_mem _ _ (Finset.mem_univ j)]
      show cast _ (yM.view.read (Elt F) f j) = _
      rw [hf, emb_chunk rV L hg hoff inb j]
      rfl
    · iexists _; iexists f; isplitr
      · ipureintro; rfl
      · iexact Hy
  · iexact Ht

theorem wp_waitOut (yM : Memref sig .scVector .vmem S16384 .i32) (sem : DmaSem sig) (g : ℕ) (O : CellTallies nD τ sig (HIx 1)) (W : Waits sig (HIx 1))
    {off : Fin 1 → ℕ} {inb : ∀ a, off a + S16384.size a ≤ S33554432.size a} {hsrc} {hdst}
    {k : PUnit → Prog (TpuEff nD τ sig (Elt F) Λ₀ (thr d L).2) α} :
    iprop(Transfers.MayWaits (thr d L) none O ∗ FlO m d L yM sem g ∗ outPt d L (OUT m d) 0 g ∗ OW d L O W)
      ⊢ iprop((iprop(Some (F := F) d L yM ∗ semVal (thr d L, .dma sem) 0 ∗ outPt d L (OUT m d) 0 (g + 1) ∗ OW d L O W) -∗ WP d L (k ⟨⟩) Q)
          -∗ WP d L (.op (.waitDma2 sem yM (rV.slice (Rect.unit (s := S33554432) off S16384.size inb) (fun _ => rfl)) hsrc hdst) k) Q) := by
  rw [outPt_split d L _ (Nat.zero_le g) (Nat.le_succ g)]
  unfold OW FlO
  iintro ⟨#Hmw, Hfl, Hi, ⟨%W', %hW', HO⟩⟩ Hk
  iapply (Transfers.wp_waitLocalO EC 𝒱₀ (thr d L) none none (N := NO) rfl (W := W')) $$ [Hfl HO]
  · isplitl [Hfl]; · iexact Hfl
    isplitl [HO]; · iexact HO
    iapply (Transfers.MayWaits.elim (SemLoc.dma sem)); iexact Hmw
  iintro ⟨⟨Hc, Hy⟩, Hs, HO⟩
  iapply Hk
  isplitl [Hy]; · iexact Hy
  isplitl [Hs]; · iexact Hs
  isplitl [Hi Hc]
  · isplitl [Hi]; · iexact Hi
    iexact Hc
  iexists _; isplitr
  rotate_left
  · iexact HO
  · ipureintro; intro p hp
    rcases Finset.mem_insert.mp hp with rfl | hp
    · exact .inr rfl
    · exact hW' p hp

end Cert.Proof.Quant
end
-- ==== Proof.Compute.lean ====
/-
  The inner loop: from a buffer reading `X`, 1024 trips of sixteen elements each leave the other buffer reading the
  bins of `X`. The program prints the loop thirteen times over different buffers; each is `cloop` of its buffers.
-/
module

public import proofs.«01_k».proof.Proof.Steps

@[expose] public section

noncomputable section

namespace Cert.Proof.Quant

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Rounds

variable {F : FTy → Type} [FloatOps F]

local notation "𝕄" => MT nD τ sig (HIx 1) (Elt F) ℕ UU ℕ

variable (m : (ℓ : Loc nD τ sig) → Buf (Elt F) ℓ) (d : Dev nD) (L : grid0.Coords)

/-- The sixteen elements of trip `t`. -/
abbrev lane (t : Fin k0_t1_loop.trips) : Rect S16384 := Rect.unit (s := S16384) (k0_off2 t) S16.size (k0_off2_inb t)

def cbody (xM : Memref sig .scVector .vmem S16384 .f32) (yM : Memref sig .scVector .vmem S16384 .i32) :
    Fin k0_t1_loop.trips → Unit → Prog (TpuEff nD τ sig (Elt F) Λ₀ (.scVector (cV L) (jV L))) Unit :=
  fun t _ => do
    let v : Vec F S16 .f32 ← Prog.lift (.load xM (lane t).toLoadRect (View.loadsAt_vmem h_S16))
    let _ : Vec F S16 .i32 ← Prog.lift (.load yM (lane t).toLoadRect (View.loadsAt_vmem h_S16))
    Prog.lift (.store yM (lane t) (k0_pay1 v) Finset.univ (View.stores_vmem_bits_univ h_S16 rfl) (.inl rfl))
    pure ⟨⟩

def cloop (xM : Memref sig .scVector .vmem S16384 .f32) (yM : Memref sig .scVector .vmem S16384 .i32) :
    Prog (TpuEff nD τ sig (Elt F) Λ₀ (.scVector (cV L) (jV L))) Unit :=
  Scf.Loop.for k0_t1_loop k0_t1_ok ⟨⟩ (cbody (F := F) L xM yM)

theorem trips1 : k0_t1_loop.trips = 1024 := by decide +kernel

theorem lane_emb_val (t : Fin k0_t1_loop.trips) (x : S16.Idx) : (((lane t).emb x) 0).val = 16 * t.val + (x 0).val := by
  have h : (((lane t).emb x) 0).val = k0_off2 t 0 + 1 * (x 0).val := rfl
  have h' : k0_off2 t 0 = 16 * t.val := by rw [k0_off2_eq]; rfl
  rw [h, h']; omega

theorem mem_lane (t : Fin k0_t1_loop.trips) (j : S16384.Idx) :
    j ∈ (lane t).set ↔ 16 * t.val ≤ (j 0).val ∧ (j 0).val < 16 * t.val + 16 := by
  have h' : k0_off2 t 0 = 16 * t.val := by rw [k0_off2_eq]; rfl
  rw [Rect.mem_set_unit]
  constructor
  · intro h; have h0 := h 0; rw [h'] at h0; exact h0
  · intro h a
    obtain rfl : a = 0 := Subsingleton.elim _ _
    rw [h']; exact h

variable {α : Type} {Q : α → sProp (MT nD τ sig (HIx 1) (Elt F) ℕ UU ℕ)}

theorem wp_cbody (xM : Memref sig .scVector .vmem S16384 .f32) (yM : Memref sig .scVector .vmem S16384 .i32) (X : S16384.Idx → Elt F .f32)
    (t : Fin k0_t1_loop.trips) (u : Unit) :
    iprop(Holds d L xM X ∗ ∃ Y, ⌜∀ j : S16384.Idx, (j 0).val < 16 * t.val → Y j = bk (F := F) (X j)⌝ ∗ Holds d L yM Y)
      ⊢ WP d L (cbody (F := F) L xM yM t u)
          fun _ => iprop(Holds d L xM X ∗ ∃ Y, ⌜∀ j : S16384.Idx, (j 0).val < 16 * (t.val + 1) → Y j = bk (F := F) (X j)⌝ ∗ Holds d L yM Y) := by
  unfold cbody Holds
  simp only [Prog.lift, Prog.bind_op, Prog.bind_ret, Prog.pure_eq_ret]
  iintro ⟨⟨%f, %hf, Hx⟩, %Y, %hY, %g, %hg, Hy⟩
  iapply (wp_load 𝒱₀ (thr d L) none Set.univ (m := xM) (S := xM.view.set) (Finset.map_subset_map.mpr (Finset.subset_univ _))) $$ Hx; iintro Hx
  iapply (wp_load 𝒱₀ (thr d L) none Set.univ (m := yM) (S := yM.view.set) (Finset.map_subset_map.mpr (Finset.subset_univ _))) $$ Hy; iintro Hy
  iapply (wp_store 𝒱₀ (thr d L) none Set.univ (m := yM) (r := lane t) (Mk := Finset.univ) (S := yM.view.set) (View.set_slice_subset _ _)) $$ Hy; iintro Hy
  rw [wp_ret]; imodintro
  isplitl [Hx]
  · iexists f; isplitr; · ipureintro; exact hf
    iexact Hx
  · iexists (yM.view.read (Elt F) ((yM.access (lane t)).write (Elt F) g (k0_pay1 (xM.view.readAt (Elt F) (lane t).toLoadRect f)) Finset.univ))
    isplitr
    · ipureintro
      intro j hj
      by_cases hm : j ∈ (lane t).set
      · obtain ⟨x, rfl⟩ : ∃ x, (lane t).emb x = j := by
          rw [← Rect.map_emb_univ] at hm
          obtain ⟨x, -, hx⟩ := Finset.mem_map.mp hm
          exact ⟨x, hx⟩
        show View.read (Elt F) yM.view _ _ = _
        refine (View.read_slice_write_emb (v := yM.view) (Val := Elt F) (lane t) g _ (Finset.mem_univ x)).trans ?_
        rw [pay1_apply, ← hf]
        rfl
      · show View.read (Elt F) yM.view _ _ = _
        refine (View.read_slice_write_of_not_mem (v := yM.view) (Val := Elt F) (lane t) g _ Finset.univ (by rw [Rect.map_emb_univ]; exact hm)).trans ?_
        rw [hg]
        refine hY j ?_
        rw [mem_lane] at hm
        omega
    · iexists _; isplitr
      rotate_left
      · iexact Hy
      · ipureintro; rfl

theorem wp_cloop (xM : Memref sig .scVector .vmem S16384 .f32) (yM : Memref sig .scVector .vmem S16384 .i32) (X : S16384.Idx → Elt F .f32)
    {k : Unit → Prog (TpuEff nD τ sig (Elt F) Λ₀ (thr d L).2) α} :
    iprop(Holds d L xM X ∗ Some (F := F) d L yM)
      ⊢ iprop((iprop(Holds d L xM X ∗ Holds d L yM fun j => bk (F := F) (X j)) -∗ WP d L (k ⟨⟩) Q) -∗ WP d L (cloop (F := F) L xM yM >>= k) Q) := by
  unfold WP
  rw [wp_bind]
  iintro ⟨Hx, Hy⟩ Hk
  unfold Some
  icases Hy with ⟨%Y, Hy⟩
  iapply (Scf.wp_for (Fr := frame) (wpE := wpE (defs₀ (F := F)) 𝒱₀ (thr d L) none) (Es := Set.univ) _ _ _ k0_t1_ok ⟨⟩ (cbody (F := F) L xM yM)
    (fun t _ => iprop(Holds d L xM X ∗ ∃ Y, ⌜∀ j : S16384.Idx, (j 0).val < 16 * t → Y j = bk (F := F) (X j)⌝ ∗ Holds d L yM Y))
    (fun t u => wp_cbody d L xM yM X t u))
  isplitl [Hx Hy]
  · isplitl [Hx]; · iexact Hx
    iexists Y; isplitr
    · ipureintro; intro j hj; exact absurd hj (by omega)
    · iexact Hy
  iintro %acc ⟨Hx, %Y', %hY', Hy⟩
  iapply Hk
  isplitl [Hx]; · iexact Hx
  have e : Y' = fun j => bk (F := F) (X j) := funext fun j => hY' j (by
    have : (j 0).val < 16384 := (j 0).isLt
    have ht := trips1
    change _ < 16 * k0_t1_loop.trips
    rw [ht]; omega)
  rw [← e]; iexact Hy

end Cert.Proof.Quant
end
-- ==== Proof.Slots.lean ====
/-
  A tile's work on one chunk: wait for its fetch, (wait for the write-out that last used the out buffer,) compute,
  issue its write-out, (issue the fetch of a later chunk into the buffer). One rule per shape of slot the program has.
-/
module

public import proofs.«01_k».proof.Proof.Compute

@[expose] public section

noncomputable section

namespace Cert.Proof.Quant

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Rounds

variable {F : FTy → Type} [FloatOps F]

local notation "𝕄" => MT nD τ sig (HIx 1) (Elt F) ℕ UU ℕ

variable (m : (ℓ : Loc nD τ sig) → Buf (Elt F) ℓ) (d : Dev nD) (L : grid0.Coords)
variable {α : Type} {Q : α → sProp (MT nD τ sig (HIx 1) (Elt F) ℕ UU ℕ)}

theorem some_of_holds {e : EltTy} (xM : Memref sig .scVector .vmem S16384 e) (X : S16384.Idx → Elt F e) :
    Holds d L xM X ⊢ Some (F := F) d L xM := by
  unfold Some; iintro H; iexists X; iexact H

/-- Compute chunk `g` and issue its write-out. -/
theorem wp_workOut (xM : Memref sig .scVector .vmem S16384 .f32) (yM : Memref sig .scVector .vmem S16384 .i32) (so : DmaSem sig)
    {g : ℕ} (hg : g < 64) {off : Fin 1 → ℕ} (hoff : off = coff L g)
    {inb : ∀ a, off a + S16384.size a ≤ S33554432.size a} {hsrc} {hdst} {hsem}
    {k : PUnit → Prog (TpuEff nD τ sig (Elt F) Λ₀ (thr d L).2) α} :
    iprop(Holds d L xM (XC m d L g) ∗ (Some (F := F) d L yM ∗ semVal (thr d L, .dma so) 0) ∗ outPt d L (m (rLoc d)) g 64)
      ⊢ iprop((iprop(Some (F := F) d L xM ∗ FlO m d L yM so g ∗ outPt d L (m (rLoc d)) (g + 1) 64) -∗ WP d L (k ⟨⟩) Q)
          -∗ WP d L (cloop (F := F) L xM yM >>= fun _ =>
              .op (.enqueueDma yM (.here (rV.slice (Rect.unit (s := S33554432) off S16384.size inb) (fun _ => rfl))) (.dma so) hsrc hdst hsem) k) Q) := by
  iintro ⟨Hx, ⟨Hy, Hso⟩, Ho⟩ Hk
  iapply (wp_cloop d L xM yM (XC m d L g)) $$ [Hx Hy]
  · isplitl [Hx] <;> iassumption
  iintro ⟨Hx, Hy⟩
  iapply (wp_issueOut m d L yM so hg hoff) $$ [Hy Hso Ho]
  · isplitl [Hy]; · iexact Hy
    isplitl [Hso] <;> iassumption
  iintro ⟨Hfo, Ho⟩
  iapply Hk
  isplitl [Hx]; · iapply (some_of_holds d L xM _); iexact Hx
  isplitl [Hfo] <;> iassumption

/-- A slot whose out buffer is free: the first chunk through it. -/
theorem wp_slotA (xM : Memref sig .scVector .vmem S16384 .f32) (si : DmaSem sig) (yM : Memref sig .scVector .vmem S16384 .i32) (so : DmaSem sig)
    (O : CellTallies nD τ sig (HIx 1)) (W : Waits sig (HIx 1)) {g g' : ℕ} (hg : g < 64) (hg' : g' < 64)
    {off off' : Fin 1 → ℕ} (hoff : off = coff L g) (hoff' : off' = coff L g')
    {inb : ∀ a, off a + S16384.size a ≤ S33554432.size a} {inb' : ∀ a, off' a + S16384.size a ≤ S33554432.size a}
    {hsrc} {hdst} {hsem} {hsrc'} {hdst'} {hsem'}
    {sw : Shape} {ew : EltTy} {spw : Space} {srcw : Memref sig .scVector spw sw ew} {hsrcw : srcw.view.WordExact} {hdstw : xM.view.WordExact}
    {k : PUnit → Prog (TpuEff nD τ sig (Elt F) Λ₀ (thr d L).2) α} :
    iprop(Transfers.MayWaits (thr d L) none O
        ∗ (FlI m d L xM si g ∗ inPt m d L 0 g ∗ inPt m d L g' 64)
        ∗ ((Some (F := F) d L yM ∗ semVal (thr d L, .dma so) 0) ∗ outPt d L (m (rLoc d)) g 64) ∗ OW d L O W)
      ⊢ iprop((iprop((FlI m d L xM si g' ∗ inPt m d L 0 (g + 1) ∗ inPt m d L (g' + 1) 64)
              ∗ (FlO m d L yM so g ∗ outPt d L (m (rLoc d)) (g + 1) 64) ∗ OW d L O W) -∗ WP d L (k ⟨⟩) Q)
          -∗ WP d L (.op (.waitDma2 si srcw xM hsrcw hdstw) fun _ => cloop (F := F) L xM yM >>= fun _ =>
              .op (.enqueueDma yM (.here (rV.slice (Rect.unit (s := S33554432) off S16384.size inb) (fun _ => rfl))) (.dma so) hsrc hdst hsem) fun _ =>
              .op (.enqueueDma (oV.slice (Rect.unit (s := S33554432) off' S16384.size inb') (fun _ => rfl)) (.here xM) (.dma si) hsrc' hdst' hsem') k) Q) := by
  iintro ⟨#Hmw, ⟨Hfi, Hd, Ht⟩, ⟨Hy, Ho⟩, HO⟩ Hk
  iapply (wp_waitIn m d L xM si g O W) $$ [Hfi Hd HO]
  · isplitr; · iexact Hmw
    isplitl [Hfi]; · iexact Hfi
    isplitl [Hd] <;> iassumption
  iintro ⟨Hx, Hsi, Hd, HO⟩
  iapply (wp_workOut m d L xM yM so hg hoff) $$ [Hx Hy Ho]
  · isplitl [Hx]; · iexact Hx
    isplitl [Hy] <;> iassumption
  iintro ⟨Hx, Hfo, Ho⟩
  iapply (wp_issueIn m d L xM si hg' hoff') $$ [Hx Hsi Ht]
  · isplitl [Hx]; · iexact Hx
    isplitl [Hsi] <;> iassumption
  iintro ⟨Hfi, Ht⟩
  iapply Hk
  isplitl [Hfi Hd Ht]
  · isplitl [Hfi]; · iexact Hfi
    isplitl [Hd] <;> iassumption
  isplitl [Hfo Ho]
  · isplitl [Hfo] <;> iassumption
  iexact HO

/-- A slot whose out buffer is still being written out, chunk `h`. -/
theorem wp_slotB (xM : Memref sig .scVector .vmem S16384 .f32) (si : DmaSem sig) (yM : Memref sig .scVector .vmem S16384 .i32) (so : DmaSem sig)
    (O : CellTallies nD τ sig (HIx 1)) (W : Waits sig (HIx 1)) {g g' : ℕ} (h : ℕ) (hg : g < 64) (hg' : g' < 64)
    {off off' offw : Fin 1 → ℕ} (hoff : off = coff L g) (hoff' : off' = coff L g')
    {inb : ∀ a, off a + S16384.size a ≤ S33554432.size a} {inb' : ∀ a, off' a + S16384.size a ≤ S33554432.size a}
    {inbw : ∀ a, offw a + S16384.size a ≤ S33554432.size a}
    {hsrc} {hdst} {hsem} {hsrc'} {hdst'} {hsem'} {hsrcv} {hdstv}
    {sw : Shape} {ew : EltTy} {spw : Space} {srcw : Memref sig .scVector spw sw ew} {hsrcw : srcw.view.WordExact} {hdstw : xM.view.WordExact}
    {k : PUnit → Prog (TpuEff nD τ sig (Elt F) Λ₀ (thr d L).2) α} :
    iprop(Transfers.MayWaits (thr d L) none O
        ∗ (FlI m d L xM si g ∗ inPt m d L 0 g ∗ inPt m d L g' 64)
        ∗ (FlO m d L yM so h ∗ outPt d L (OUT m d) 0 h ∗ outPt d L (m (rLoc d)) g 64) ∗ OW d L O W)
      ⊢ iprop((iprop((FlI m d L xM si g' ∗ inPt m d L 0 (g + 1) ∗ inPt m d L (g' + 1) 64)
              ∗ (FlO m d L yM so g ∗ outPt d L (OUT m d) 0 (h + 1) ∗ outPt d L (m (rLoc d)) (g + 1) 64) ∗ OW d L O W) -∗ WP d L (k ⟨⟩) Q)
          -∗ WP d L (.op (.waitDma2 si srcw xM hsrcw hdstw) fun _ =>
              .op (.waitDma2 so yM (rV.slice (Rect.unit (s := S33554432) offw S16384.size inbw) (fun _ => rfl)) hsrcv hdstv) fun _ =>
              cloop (F := F) L xM yM >>= fun _ =>
              .op (.enqueueDma yM (.here (rV.slice (Rect.unit (s := S33554432) off S16384.size inb) (fun _ => rfl))) (.dma so) hsrc hdst hsem) fun _ =>
              .op (.enqueueDma (oV.slice (Rect.unit (s := S33554432) off' S16384.size inb') (fun _ => rfl)) (.here xM) (.dma si) hsrc' hdst' hsem') k) Q) := by
  iintro ⟨#Hmw, ⟨Hfi, Hd, Ht⟩, ⟨Hfo, Hod, Ho⟩, HO⟩ Hk
  iapply (wp_waitIn m d L xM si g O W) $$ [Hfi Hd HO]
  · isplitr; · iexact Hmw
    isplitl [Hfi]; · iexact Hfi
    isplitl [Hd] <;> iassumption
  iintro ⟨Hx, Hsi, Hd, HO⟩
  iapply (wp_waitOut m d L yM so h O W) $$ [Hfo Hod HO]
  · isplitr; · iexact Hmw
    isplitl [Hfo]; · iexact Hfo
    isplitl [Hod] <;> iassumption
  iintro ⟨Hy, Hso, Hod, HO⟩
  iapply (wp_workOut m d L xM yM so hg hoff) $$ [Hx Hy Hso Ho]
  · isplitl [Hx]; · iexact Hx
    isplitl [Hy Hso]
    · isplitl [Hy] <;> iassumption
    iexact Ho
  iintro ⟨Hx, Hfo, Ho⟩
  iapply (wp_issueIn m d L xM si hg' hoff') $$ [Hx Hsi Ht]
  · isplitl [Hx]; · iexact Hx
    isplitl [Hsi] <;> iassumption
  iintro ⟨Hfi, Ht⟩
  iapply Hk
  isplitl [Hfi Hd Ht]
  · isplitl [Hfi]; · iexact Hfi
    isplitl [Hd] <;> iassumption
  isplitl [Hfo Ho Hod]
  · isplitl [Hfo]; · iexact Hfo
    isplitl [Hod] <;> iassumption
  iexact HO

/-- A slot that fetches nothing after it: the last four chunks. -/
theorem wp_slotC (xM : Memref sig .scVector .vmem S16384 .f32) (si : DmaSem sig) (yM : Memref sig .scVector .vmem S16384 .i32) (so : DmaSem sig)
    (O : CellTallies nD τ sig (HIx 1)) (W : Waits sig (HIx 1)) {g : ℕ} (h : ℕ) (hg : g < 64)
    {off offw : Fin 1 → ℕ} (hoff : off = coff L g)
    {inb : ∀ a, off a + S16384.size a ≤ S33554432.size a} {inbw : ∀ a, offw a + S16384.size a ≤ S33554432.size a}
    {hsrc} {hdst} {hsem} {hsrcv} {hdstv}
    {sw : Shape} {ew : EltTy} {spw : Space} {srcw : Memref sig .scVector spw sw ew} {hsrcw : srcw.view.WordExact} {hdstw : xM.view.WordExact}
    {k : PUnit → Prog (TpuEff nD τ sig (Elt F) Λ₀ (thr d L).2) α} :
    iprop(Transfers.MayWaits (thr d L) none O
        ∗ (FlI m d L xM si g ∗ inPt m d L 0 g)
        ∗ (FlO m d L yM so h ∗ outPt d L (OUT m d) 0 h ∗ outPt d L (m (rLoc d)) g 64) ∗ OW d L O W)
      ⊢ iprop((iprop((Some (F := F) d L xM ∗ semVal (thr d L, .dma si) 0) ∗ inPt m d L 0 (g + 1)
              ∗ (FlO m d L yM so g ∗ outPt d L (OUT m d) 0 (h + 1) ∗ outPt d L (m (rLoc d)) (g + 1) 64) ∗ OW d L O W) -∗ WP d L (k ⟨⟩) Q)
          -∗ WP d L (.op (.waitDma2 si srcw xM hsrcw hdstw) fun _ =>
              .op (.waitDma2 so yM (rV.slice (Rect.unit (s := S33554432) offw S16384.size inbw) (fun _ => rfl)) hsrcv hdstv) fun _ =>
              cloop (F := F) L xM yM >>= fun _ =>
              .op (.enqueueDma yM (.here (rV.slice (Rect.unit (s := S33554432) off S16384.size inb) (fun _ => rfl))) (.dma so) hsrc hdst hsem) k) Q) := by
  iintro ⟨#Hmw, ⟨Hfi, Hd⟩, ⟨Hfo, Hod, Ho⟩, HO⟩ Hk
  iapply (wp_waitIn m d L xM si g O W) $$ [Hfi Hd HO]
  · isplitr; · iexact Hmw
    isplitl [Hfi]; · iexact Hfi
    isplitl [Hd] <;> iassumption
  iintro ⟨Hx, Hsi, Hd, HO⟩
  iapply (wp_waitOut m d L yM so h O W) $$ [Hfo Hod HO]
  · isplitr; · iexact Hmw
    isplitl [Hfo]; · iexact Hfo
    isplitl [Hod] <;> iassumption
  iintro ⟨Hy, Hso, Hod, HO⟩
  iapply (wp_workOut m d L xM yM so hg hoff) $$ [Hx Hy Hso Ho]
  · isplitl [Hx]; · iexact Hx
    isplitl [Hy Hso]
    · isplitl [Hy] <;> iassumption
    iexact Ho
  iintro ⟨Hx, Hfo, Ho⟩
  iapply Hk
  isplitl [Hx Hsi]
  · isplitl [Hx] <;> iassumption
  isplitl [Hd]; · iexact Hd
  isplitl [Hfo Ho Hod]
  · isplitl [Hfo]; · iexact Hfo
    isplitl [Hod] <;> iassumption
  iexact HO

end Cert.Proof.Quant
end
-- ==== Proof.Loops.lean ====
/-
  The twelve inner loops of the program are one loop, `cloop`, over different buffers.
-/
module

public import proofs.«01_k».proof.Proof.Slots

@[expose] public section

noncomputable section

namespace Cert.Proof.Quant

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Rounds

variable {F : FTy → Type} [FloatOps F]

local notation "𝕄" => MT nD τ sig (HIx 1) (Elt F) ℕ UU ℕ

theorem loop1_eq (i : grid0.Coords) (arg2 : Memref sig .scVector .hbm S33554432 .f32) (harg2 : arg2.IsWhole) (arg3 : Memref sig .scVector .hbm S255 .f32) (harg3 : arg3.IsWhole) (arg4 : Memref sig .scVector .hbm S33554432 .i32) (harg4 : arg4.IsWhole) (arg5 : Memref sig .scVector .vmem S16384 .f32) (harg5 : arg5.IsWhole) (arg6 : Memref sig .scVector .vmem S16384 .f32) (harg6 : arg6.IsWhole) (arg7 : Memref sig .scVector .vmem S16384 .f32) (harg7 : arg7.IsWhole) (arg8 : Memref sig .scVector .vmem S16384 .f32) (harg8 : arg8.IsWhole) (arg9 : Memref sig .scVector .vmem S16384 .i32) (harg9 : arg9.IsWhole) (arg10 : Memref sig .scVector .vmem S16384 .i32) (harg10 : arg10.IsWhole) (arg11 arg12 arg13 arg14 arg15 arg16 : DmaSems sig S_)  :
    Scf.Loop.for k0_t1_loop k0_t1_ok ⟨⟩ (k0_t1_body (F := F) i arg2 harg2 arg3 harg3 arg4 harg4 arg5 harg5 arg6 harg6 arg7 harg7 arg8 harg8 arg9 harg9 arg10 harg10 arg11 arg12 arg13 arg14 arg15 arg16 ) = cloop (F := F) i arg5 arg9 := rfl

theorem loop2_eq (i : grid0.Coords) (arg2 : Memref sig .scVector .hbm S33554432 .f32) (harg2 : arg2.IsWhole) (arg3 : Memref sig .scVector .hbm S255 .f32) (harg3 : arg3.IsWhole) (arg4 : Memref sig .scVector .hbm S33554432 .i32) (harg4 : arg4.IsWhole) (arg5 : Memref sig .scVector .vmem S16384 .f32) (harg5 : arg5.IsWhole) (arg6 : Memref sig .scVector .vmem S16384 .f32) (harg6 : arg6.IsWhole) (arg7 : Memref sig .scVector .vmem S16384 .f32) (harg7 : arg7.IsWhole) (arg8 : Memref sig .scVector .vmem S16384 .f32) (harg8 : arg8.IsWhole) (arg9 : Memref sig .scVector .vmem S16384 .i32) (harg9 : arg9.IsWhole) (arg10 : Memref sig .scVector .vmem S16384 .i32) (harg10 : arg10.IsWhole) (arg11 arg12 arg13 arg14 arg15 arg16 : DmaSems sig S_)  :
    Scf.Loop.for k0_t2_loop k0_t2_ok ⟨⟩ (k0_t2_body (F := F) i arg2 harg2 arg3 harg3 arg4 harg4 arg5 harg5 arg6 harg6 arg7 harg7 arg8 harg8 arg9 harg9 arg10 harg10 arg11 arg12 arg13 arg14 arg15 arg16 ) = cloop (F := F) i arg6 arg10 := rfl

theorem loop3_eq (i : grid0.Coords) (arg2 : Memref sig .scVector .hbm S33554432 .f32) (harg2 : arg2.IsWhole) (arg3 : Memref sig .scVector .hbm S255 .f32) (harg3 : arg3.IsWhole) (arg4 : Memref sig .scVector .hbm S33554432 .i32) (harg4 : arg4.IsWhole) (arg5 : Memref sig .scVector .vmem S16384 .f32) (harg5 : arg5.IsWhole) (arg6 : Memref sig .scVector .vmem S16384 .f32) (harg6 : arg6.IsWhole) (arg7 : Memref sig .scVector .vmem S16384 .f32) (harg7 : arg7.IsWhole) (arg8 : Memref sig .scVector .vmem S16384 .f32) (harg8 : arg8.IsWhole) (arg9 : Memref sig .scVector .vmem S16384 .i32) (harg9 : arg9.IsWhole) (arg10 : Memref sig .scVector .vmem S16384 .i32) (harg10 : arg10.IsWhole) (arg11 arg12 arg13 arg14 arg15 arg16 : DmaSems sig S_) (v2 c : BitVec 32) :
    Scf.Loop.for k0_t3_loop k0_t3_ok ⟨⟩ (k0_t3_body (F := F) i arg2 harg2 arg3 harg3 arg4 harg4 arg5 harg5 arg6 harg6 arg7 harg7 arg8 harg8 arg9 harg9 arg10 harg10 arg11 arg12 arg13 arg14 arg15 arg16 v2 c) = cloop (F := F) i arg7 arg9 := rfl

theorem loop4_eq (i : grid0.Coords) (arg2 : Memref sig .scVector .hbm S33554432 .f32) (harg2 : arg2.IsWhole) (arg3 : Memref sig .scVector .hbm S255 .f32) (harg3 : arg3.IsWhole) (arg4 : Memref sig .scVector .hbm S33554432 .i32) (harg4 : arg4.IsWhole) (arg5 : Memref sig .scVector .vmem S16384 .f32) (harg5 : arg5.IsWhole) (arg6 : Memref sig .scVector .vmem S16384 .f32) (harg6 : arg6.IsWhole) (arg7 : Memref sig .scVector .vmem S16384 .f32) (harg7 : arg7.IsWhole) (arg8 : Memref sig .scVector .vmem S16384 .f32) (harg8 : arg8.IsWhole) (arg9 : Memref sig .scVector .vmem S16384 .i32) (harg9 : arg9.IsWhole) (arg10 : Memref sig .scVector .vmem S16384 .i32) (harg10 : arg10.IsWhole) (arg11 arg12 arg13 arg14 arg15 arg16 : DmaSems sig S_) (v2 c : BitVec 32) :
    Scf.Loop.for k0_t4_loop k0_t4_ok ⟨⟩ (k0_t4_body (F := F) i arg2 harg2 arg3 harg3 arg4 harg4 arg5 harg5 arg6 harg6 arg7 harg7 arg8 harg8 arg9 harg9 arg10 harg10 arg11 arg12 arg13 arg14 arg15 arg16 v2 c) = cloop (F := F) i arg8 arg10 := rfl

theorem loop6_eq (i : grid0.Coords) (arg2 : Memref sig .scVector .hbm S33554432 .f32) (harg2 : arg2.IsWhole) (arg3 : Memref sig .scVector .hbm S255 .f32) (harg3 : arg3.IsWhole) (arg4 : Memref sig .scVector .hbm S33554432 .i32) (harg4 : arg4.IsWhole) (arg5 : Memref sig .scVector .vmem S16384 .f32) (harg5 : arg5.IsWhole) (arg6 : Memref sig .scVector .vmem S16384 .f32) (harg6 : arg6.IsWhole) (arg7 : Memref sig .scVector .vmem S16384 .f32) (harg7 : arg7.IsWhole) (arg8 : Memref sig .scVector .vmem S16384 .f32) (harg8 : arg8.IsWhole) (arg9 : Memref sig .scVector .vmem S16384 .i32) (harg9 : arg9.IsWhole) (arg10 : Memref sig .scVector .vmem S16384 .i32) (harg10 : arg10.IsWhole) (arg11 arg12 arg13 arg14 arg15 arg16 : DmaSems sig S_) (v2 a b : BitVec 32) (t : Fin k0_t5_loop.trips) :
    Scf.Loop.for k0_t6_loop k0_t6_ok ⟨⟩ (k0_t6_body (F := F) i arg2 harg2 arg3 harg3 arg4 harg4 arg5 harg5 arg6 harg6 arg7 harg7 arg8 harg8 arg9 harg9 arg10 harg10 arg11 arg12 arg13 arg14 arg15 arg16 v2 a b t) = cloop (F := F) i arg5 arg9 := rfl

theorem loop7_eq (i : grid0.Coords) (arg2 : Memref sig .scVector .hbm S33554432 .f32) (harg2 : arg2.IsWhole) (arg3 : Memref sig .scVector .hbm S255 .f32) (harg3 : arg3.IsWhole) (arg4 : Memref sig .scVector .hbm S33554432 .i32) (harg4 : arg4.IsWhole) (arg5 : Memref sig .scVector .vmem S16384 .f32) (harg5 : arg5.IsWhole) (arg6 : Memref sig .scVector .vmem S16384 .f32) (harg6 : arg6.IsWhole) (arg7 : Memref sig .scVector .vmem S16384 .f32) (harg7 : arg7.IsWhole) (arg8 : Memref sig .scVector .vmem S16384 .f32) (harg8 : arg8.IsWhole) (arg9 : Memref sig .scVector .vmem S16384 .i32) (harg9 : arg9.IsWhole) (arg10 : Memref sig .scVector .vmem S16384 .i32) (harg10 : arg10.IsWhole) (arg11 arg12 arg13 arg14 arg15 arg16 : DmaSems sig S_) (v2 : BitVec 32) (t : Fin k0_t5_loop.trips) (a b c : BitVec 32) :
    Scf.Loop.for k0_t7_loop k0_t7_ok ⟨⟩ (k0_t7_body (F := F) i arg2 harg2 arg3 harg3 arg4 harg4 arg5 harg5 arg6 harg6 arg7 harg7 arg8 harg8 arg9 harg9 arg10 harg10 arg11 arg12 arg13 arg14 arg15 arg16 v2 t a b c) = cloop (F := F) i arg6 arg10 := rfl

theorem loop8_eq (i : grid0.Coords) (arg2 : Memref sig .scVector .hbm S33554432 .f32) (harg2 : arg2.IsWhole) (arg3 : Memref sig .scVector .hbm S255 .f32) (harg3 : arg3.IsWhole) (arg4 : Memref sig .scVector .hbm S33554432 .i32) (harg4 : arg4.IsWhole) (arg5 : Memref sig .scVector .vmem S16384 .f32) (harg5 : arg5.IsWhole) (arg6 : Memref sig .scVector .vmem S16384 .f32) (harg6 : arg6.IsWhole) (arg7 : Memref sig .scVector .vmem S16384 .f32) (harg7 : arg7.IsWhole) (arg8 : Memref sig .scVector .vmem S16384 .f32) (harg8 : arg8.IsWhole) (arg9 : Memref sig .scVector .vmem S16384 .i32) (harg9 : arg9.IsWhole) (arg10 : Memref sig .scVector .vmem S16384 .i32) (harg10 : arg10.IsWhole) (arg11 arg12 arg13 arg14 arg15 arg16 : DmaSems sig S_) (v2 : BitVec 32) (t : Fin k0_t5_loop.trips) (a b c : BitVec 32) :
    Scf.Loop.for k0_t8_loop k0_t8_ok ⟨⟩ (k0_t8_body (F := F) i arg2 harg2 arg3 harg3 arg4 harg4 arg5 harg5 arg6 harg6 arg7 harg7 arg8 harg8 arg9 harg9 arg10 harg10 arg11 arg12 arg13 arg14 arg15 arg16 v2 t a b c) = cloop (F := F) i arg7 arg9 := rfl

theorem loop9_eq (i : grid0.Coords) (arg2 : Memref sig .scVector .hbm S33554432 .f32) (harg2 : arg2.IsWhole) (arg3 : Memref sig .scVector .hbm S255 .f32) (harg3 : arg3.IsWhole) (arg4 : Memref sig .scVector .hbm S33554432 .i32) (harg4 : arg4.IsWhole) (arg5 : Memref sig .scVector .vmem S16384 .f32) (harg5 : arg5.IsWhole) (arg6 : Memref sig .scVector .vmem S16384 .f32) (harg6 : arg6.IsWhole) (arg7 : Memref sig .scVector .vmem S16384 .f32) (harg7 : arg7.IsWhole) (arg8 : Memref sig .scVector .vmem S16384 .f32) (harg8 : arg8.IsWhole) (arg9 : Memref sig .scVector .vmem S16384 .i32) (harg9 : arg9.IsWhole) (arg10 : Memref sig .scVector .vmem S16384 .i32) (harg10 : arg10.IsWhole) (arg11 arg12 arg13 arg14 arg15 arg16 : DmaSems sig S_) (v2 : BitVec 32) :
    Scf.Loop.for k0_t9_loop k0_t9_ok ⟨⟩ (k0_t9_body (F := F) i arg2 harg2 arg3 harg3 arg4 harg4 arg5 harg5 arg6 harg6 arg7 harg7 arg8 harg8 arg9 harg9 arg10 harg10 arg11 arg12 arg13 arg14 arg15 arg16 v2) = cloop (F := F) i arg8 arg10 := rfl

theorem loop10_eq (i : grid0.Coords) (arg2 : Memref sig .scVector .hbm S33554432 .f32) (harg2 : arg2.IsWhole) (arg3 : Memref sig .scVector .hbm S255 .f32) (harg3 : arg3.IsWhole) (arg4 : Memref sig .scVector .hbm S33554432 .i32) (harg4 : arg4.IsWhole) (arg5 : Memref sig .scVector .vmem S16384 .f32) (harg5 : arg5.IsWhole) (arg6 : Memref sig .scVector .vmem S16384 .f32) (harg6 : arg6.IsWhole) (arg7 : Memref sig .scVector .vmem S16384 .f32) (harg7 : arg7.IsWhole) (arg8 : Memref sig .scVector .vmem S16384 .f32) (harg8 : arg8.IsWhole) (arg9 : Memref sig .scVector .vmem S16384 .i32) (harg9 : arg9.IsWhole) (arg10 : Memref sig .scVector .vmem S16384 .i32) (harg10 : arg10.IsWhole) (arg11 arg12 arg13 arg14 arg15 arg16 : DmaSems sig S_) (v2 : BitVec 32) :
    Scf.Loop.for k0_t10_loop k0_t10_ok ⟨⟩ (k0_t10_body (F := F) i arg2 harg2 arg3 harg3 arg4 harg4 arg5 harg5 arg6 harg6 arg7 harg7 arg8 harg8 arg9 harg9 arg10 harg10 arg11 arg12 arg13 arg14 arg15 arg16 v2) = cloop (F := F) i arg5 arg9 := rfl

theorem loop11_eq (i : grid0.Coords) (arg2 : Memref sig .scVector .hbm S33554432 .f32) (harg2 : arg2.IsWhole) (arg3 : Memref sig .scVector .hbm S255 .f32) (harg3 : arg3.IsWhole) (arg4 : Memref sig .scVector .hbm S33554432 .i32) (harg4 : arg4.IsWhole) (arg5 : Memref sig .scVector .vmem S16384 .f32) (harg5 : arg5.IsWhole) (arg6 : Memref sig .scVector .vmem S16384 .f32) (harg6 : arg6.IsWhole) (arg7 : Memref sig .scVector .vmem S16384 .f32) (harg7 : arg7.IsWhole) (arg8 : Memref sig .scVector .vmem S16384 .f32) (harg8 : arg8.IsWhole) (arg9 : Memref sig .scVector .vmem S16384 .i32) (harg9 : arg9.IsWhole) (arg10 : Memref sig .scVector .vmem S16384 .i32) (harg10 : arg10.IsWhole) (arg11 arg12 arg13 arg14 arg15 arg16 : DmaSems sig S_) (v2 : BitVec 32) :
    Scf.Loop.for k0_t11_loop k0_t11_ok ⟨⟩ (k0_t11_body (F := F) i arg2 harg2 arg3 harg3 arg4 harg4 arg5 harg5 arg6 harg6 arg7 harg7 arg8 harg8 arg9 harg9 arg10 harg10 arg11 arg12 arg13 arg14 arg15 arg16 v2) = cloop (F := F) i arg6 arg10 := rfl

theorem loop12_eq (i : grid0.Coords) (arg2 : Memref sig .scVector .hbm S33554432 .f32) (harg2 : arg2.IsWhole) (arg3 : Memref sig .scVector .hbm S255 .f32) (harg3 : arg3.IsWhole) (arg4 : Memref sig .scVector .hbm S33554432 .i32) (harg4 : arg4.IsWhole) (arg5 : Memref sig .scVector .vmem S16384 .f32) (harg5 : arg5.IsWhole) (arg6 : Memref sig .scVector .vmem S16384 .f32) (harg6 : arg6.IsWhole) (arg7 : Memref sig .scVector .vmem S16384 .f32) (harg7 : arg7.IsWhole) (arg8 : Memref sig .scVector .vmem S16384 .f32) (harg8 : arg8.IsWhole) (arg9 : Memref sig .scVector .vmem S16384 .i32) (harg9 : arg9.IsWhole) (arg10 : Memref sig .scVector .vmem S16384 .i32) (harg10 : arg10.IsWhole) (arg11 arg12 arg13 arg14 arg15 arg16 : DmaSems sig S_)  :
    Scf.Loop.for k0_t12_loop k0_t12_ok ⟨⟩ (k0_t12_body (F := F) i arg2 harg2 arg3 harg3 arg4 harg4 arg5 harg5 arg6 harg6 arg7 harg7 arg8 harg8 arg9 harg9 arg10 harg10 arg11 arg12 arg13 arg14 arg15 arg16 ) = cloop (F := F) i arg7 arg9 := rfl

theorem loop13_eq (i : grid0.Coords) (arg2 : Memref sig .scVector .hbm S33554432 .f32) (harg2 : arg2.IsWhole) (arg3 : Memref sig .scVector .hbm S255 .f32) (harg3 : arg3.IsWhole) (arg4 : Memref sig .scVector .hbm S33554432 .i32) (harg4 : arg4.IsWhole) (arg5 : Memref sig .scVector .vmem S16384 .f32) (harg5 : arg5.IsWhole) (arg6 : Memref sig .scVector .vmem S16384 .f32) (harg6 : arg6.IsWhole) (arg7 : Memref sig .scVector .vmem S16384 .f32) (harg7 : arg7.IsWhole) (arg8 : Memref sig .scVector .vmem S16384 .f32) (harg8 : arg8.IsWhole) (arg9 : Memref sig .scVector .vmem S16384 .i32) (harg9 : arg9.IsWhole) (arg10 : Memref sig .scVector .vmem S16384 .i32) (harg10 : arg10.IsWhole) (arg11 arg12 arg13 arg14 arg15 arg16 : DmaSems sig S_)  :
    Scf.Loop.for k0_t13_loop k0_t13_ok ⟨⟩ (k0_t13_body (F := F) i arg2 harg2 arg3 harg3 arg4 harg4 arg5 harg5 arg6 harg6 arg7 harg7 arg8 harg8 arg9 harg9 arg10 harg10 arg11 arg12 arg13 arg14 arg15 arg16 ) = cloop (F := F) i arg8 arg10 := rfl

end Cert.Proof.Quant
end
-- ==== Proof.Ring.lean ====
/-
  One trip of the ring: four chunks, one per input buffer, the out buffers by turns; and the ring.
-/
module

public import proofs.«01_k».proof.Proof.Loops

@[expose] public section

noncomputable section

namespace Cert.Proof.Quant

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Rounds

variable {F : FTy → Type} [FloatOps F]

local notation "𝕄" => MT nD τ sig (HIx 1) (Elt F) ℕ UU ℕ

variable (m : (ℓ : Loc nD τ sig) → Buf (Elt F) ℓ) (d : Dev nD) (L : grid0.Coords)

/-! ## The tile's buffers -/

abbrev x0 : Memref sig .scVector .vmem S16384 .f32 := Memref.whole cc0_scratch0
abbrev x1 : Memref sig .scVector .vmem S16384 .f32 := Memref.whole cc0_scratch1
abbrev x2 : Memref sig .scVector .vmem S16384 .f32 := Memref.whole cc0_scratch2
abbrev x3 : Memref sig .scVector .vmem S16384 .f32 := Memref.whole cc0_scratch3
abbrev y0 : Memref sig .scVector .vmem S16384 .i32 := Memref.whole cc0_scratch4
abbrev y1 : Memref sig .scVector .vmem S16384 .i32 := Memref.whole cc0_scratch5

/-- Between trips, `n` done: chunks `4n+4` to `4n+7` being fetched, `4n+2` and `4n+3` being written out, those before
    them done, those after untouched. -/
def RING (O : CellTallies nD τ sig (HIx 1)) (W : Waits sig (HIx 1)) (n : ℕ) : sProp 𝕄 :=
  iprop(Transfers.MayWaits (thr d L) none O
    ∗ (FlI m d L x0 cc0_scratch6.sem (4 * n + 4) ∗ FlI m d L x1 cc0_scratch7.sem (4 * n + 4 + 1)
      ∗ FlI m d L x2 cc0_scratch8.sem (4 * n + 4 + 2) ∗ FlI m d L x3 cc0_scratch9.sem (4 * n + 4 + 3)
      ∗ inPt m d L 0 (4 * n + 4) ∗ inPt m d L (4 * n + 8) 64)
    ∗ (FlO m d L y0 cc0_scratch10.sem (4 * n + 2) ∗ FlO m d L y1 cc0_scratch11.sem (4 * n + 2 + 1)
      ∗ outPt d L (OUT m d) 0 (4 * n + 2) ∗ outPt d L (m (rLoc d)) (4 * n + 4) 64)
    ∗ OW d L O W)

theorem ring_trip (O : CellTallies nD τ sig (HIx 1)) (W : Waits sig (HIx 1)) (v2 : BitVec 32) (t : Fin k0_t5_loop.trips) (u : Unit) :
    RING m d L O W t.val
      ⊢ WP d L (k0_t5_body (F := F) L oV (Memref.isWhole_whole _) bV (Memref.isWhole_whole _) rV (Memref.isWhole_whole _)
          x0 (Memref.isWhole_whole _) x1 (Memref.isWhole_whole _) x2 (Memref.isWhole_whole _) x3 (Memref.isWhole_whole _)
          y0 (Memref.isWhole_whole _) y1 (Memref.isWhole_whole _)
          cc0_scratch6 cc0_scratch7 cc0_scratch8 cc0_scratch9 cc0_scratch10 cc0_scratch11 v2 t u)
        fun _ => RING m d L O W (t.val + 1) := by
  have ht := trips5 t
  unfold RING
  rw [show 4 * (t.val + 1) + 4 = 4 * t.val + 8 by omega, show 4 * (t.val + 1) + 2 = 4 * t.val + 6 by omega,
    show 4 * (t.val + 1) + 8 = 4 * t.val + 12 by omega]
  simp only [k0_t5_body, k0_part1_eq_skeleton, k0_part2_eq_skeleton, k0_part1_skel, k0_part2_skel, Prog.lift, Prog.bind_op, Prog.bind_ret,
    Prog.pure_eq_ret, bind_assoc, loop6_eq, loop7_eq, loop8_eq, loop9_eq]
  iintro ⟨#Hmw, ⟨Hf0, Hf1, Hf2, Hf3, Hd, Ht⟩, ⟨Hg0, Hg1, Hod, Ho⟩, HO⟩
  iapply (wp_slotB m d L x0 cc0_scratch6.sem y0 cc0_scratch10.sem O W (g := 4 * t.val + 4) (g' := 4 * t.val + 8) (4 * t.val + 2) (by omega) (by omega)
    (off6_coff L t 0) (off9_coff L t 0)) $$ [Hf0 Hd Ht Hg0 Hod Ho HO]
  · isplitr; · iexact Hmw
    isplitl [Hf0 Hd Ht]
    · isplitl [Hf0]; · iexact Hf0
      isplitl [Hd] <;> iassumption
    isplitl [Hg0 Hod Ho]
    · isplitl [Hg0]; · iexact Hg0
      isplitl [Hod] <;> iassumption
    iexact HO
  iintro ⟨⟨Hf0, Hd, Ht⟩, ⟨Hg0, Hod, Ho⟩, HO⟩
  iapply (wp_slotB m d L x1 cc0_scratch7.sem y1 cc0_scratch11.sem O W (g := 4 * t.val + 4 + 1) (g' := 4 * t.val + 8 + 1) (4 * t.val + 2 + 1) (by omega) (by omega)
    (off6_coff L t 1) (off9_coff L t 1)) $$ [Hf1 Hd Ht Hg1 Hod Ho HO]
  · isplitr; · iexact Hmw
    isplitl [Hf1 Hd Ht]
    · isplitl [Hf1]; · iexact Hf1
      isplitl [Hd] <;> iassumption
    isplitl [Hg1 Hod Ho]
    · isplitl [Hg1]; · iexact Hg1
      isplitl [Hod] <;> iassumption
    iexact HO
  iintro ⟨⟨Hf1, Hd, Ht⟩, ⟨Hg1, Hod, Ho⟩, HO⟩
  iapply (wp_slotB m d L x2 cc0_scratch8.sem y0 cc0_scratch10.sem O W (g := 4 * t.val + 4 + 2) (g' := 4 * t.val + 8 + 2) (4 * t.val + 4) (by omega) (by omega)
    (off6_coff L t 2) (off9_coff L t 2)) $$ [Hf2 Hd Ht Hg0 Hod Ho HO]
  · isplitr; · iexact Hmw
    isplitl [Hf2 Hd Ht]
    · isplitl [Hf2]; · iexact Hf2
      isplitl [Hd] <;> iassumption
    isplitl [Hg0 Hod Ho]
    · isplitl [Hg0]; · iexact Hg0
      isplitl [Hod] <;> iassumption
    iexact HO
  iintro ⟨⟨Hf2, Hd, Ht⟩, ⟨Hg0, Hod, Ho⟩, HO⟩
  iapply (wp_slotB m d L x3 cc0_scratch9.sem y1 cc0_scratch11.sem O W (g := 4 * t.val + 4 + 3) (g' := 4 * t.val + 8 + 3) (4 * t.val + 4 + 1) (by omega) (by omega)
    (off6_coff L t 3) (off9_coff L t 3)) $$ [Hf3 Hd Ht Hg1 Hod Ho HO]
  · isplitr; · iexact Hmw
    isplitl [Hf3 Hd Ht]
    · isplitl [Hf3]; · iexact Hf3
      isplitl [Hd] <;> iassumption
    isplitl [Hg1 Hod Ho]
    · isplitl [Hg1]; · iexact Hg1
      isplitl [Hod] <;> iassumption
    iexact HO
  iintro ⟨⟨Hf3, Hd, Ht⟩, ⟨Hg1, Hod, Ho⟩, HO⟩
  unfold WP; rw [wp_ret]; imodintro
  isplitr; · iexact Hmw
  isplitl [Hf0 Hf1 Hf2 Hf3 Hd Ht]
  · isplitl [Hf0]; · iexact Hf0
    isplitl [Hf1]; · iexact Hf1
    isplitl [Hf2]; · iexact Hf2
    isplitl [Hf3]; · iexact Hf3
    isplitl [Hd] <;> iassumption
  isplitl [Hg0 Hg1 Hod Ho]
  · isplitl [Hg0]; · iexact Hg0
    isplitl [Hg1]; · iexact Hg1
    isplitl [Hod] <;> iassumption
  iexact HO

end Cert.Proof.Quant
end
-- ==== Proof.Tile.lean ====
/-
  A tile's run, at a symbolic pair of SparseCore and tile: from its part of `o` and of the result, to the result's part
  at the bins of `o`'s.
-/
module

public import proofs.«01_k».proof.Proof.Ring

@[expose] public section

noncomputable section

namespace Cert.Proof.Quant

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx Pay tileRest ownBufs ownSems0 ownCells ownRefs mem_ownCells mem_ownRefs)
open Idealize.ShloMosaic.Rounds

variable {F : FTy → Type} [FloatOps F]

local notation "𝕄" => MT nD τ sig (HIx 1) (Elt F) ℕ UU ℕ

variable (m : (ℓ : Loc nD τ sig) → Buf (Elt F) ℓ) (d : Dev nD) (L : grid0.Coords)

omit [FloatOps F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The tile's own semaphores and buffers among those of its processor -/

omit [FloatOps F] in
theorem ownSems0_V :
    (ownSems0 (thr d L) : sProp 𝕄)
      = iprop(semVal ((thr d L, .dma cc0_scratch6.sem) : GSem nD τ sig) 0 ∗ semVal ((thr d L, .dma cc0_scratch7.sem) : GSem nD τ sig) 0 ∗ semVal ((thr d L, .dma cc0_scratch8.sem) : GSem nD τ sig) 0 ∗ semVal ((thr d L, .dma cc0_scratch9.sem) : GSem nD τ sig) 0 ∗ semVal ((thr d L, .dma cc0_scratch10.sem) : GSem nD τ sig) 0 ∗ semVal ((thr d L, .dma cc0_scratch11.sem) : GSem nD τ sig) 0
          ∗ bigSep (((((((ownCells (thr d L)).erase ((thr d L, .dma cc0_scratch6.sem) : GSem nD τ sig)).erase ((thr d L, .dma cc0_scratch7.sem) : GSem nD τ sig)).erase ((thr d L, .dma cc0_scratch8.sem) : GSem nD τ sig)).erase ((thr d L, .dma cc0_scratch9.sem) : GSem nD τ sig)).erase ((thr d L, .dma cc0_scratch10.sem) : GSem nD τ sig)).erase ((thr d L, .dma cc0_scratch11.sem) : GSem nD τ sig)) fun g => semVal g 0) := by
  unfold SparseCore.Cfg.ownSems0
  rw [SparseCore.bigSep_erase' ((mem_ownCells (g := ((thr d L, .dma cc0_scratch6.sem) : GSem nD τ sig))).mpr ⟨rfl, by show (SemLoc.dma cc0_scratch6.sem : SemLoc sig).isScoped .scVector = true; decide⟩),
    SparseCore.bigSep_erase' (Finset.mem_erase.mpr ⟨fun e => absurd (Prod.mk.inj e).2 (show (SemLoc.dma cc0_scratch7.sem : SemLoc sig) ≠ .dma cc0_scratch6.sem by decide), (mem_ownCells (g := ((thr d L, .dma cc0_scratch7.sem) : GSem nD τ sig))).mpr ⟨rfl, by show (SemLoc.dma cc0_scratch7.sem : SemLoc sig).isScoped .scVector = true; decide⟩⟩),
    SparseCore.bigSep_erase' (Finset.mem_erase.mpr ⟨fun e => absurd (Prod.mk.inj e).2 (show (SemLoc.dma cc0_scratch8.sem : SemLoc sig) ≠ .dma cc0_scratch7.sem by decide), Finset.mem_erase.mpr ⟨fun e => absurd (Prod.mk.inj e).2 (show (SemLoc.dma cc0_scratch8.sem : SemLoc sig) ≠ .dma cc0_scratch6.sem by decide), (mem_ownCells (g := ((thr d L, .dma cc0_scratch8.sem) : GSem nD τ sig))).mpr ⟨rfl, by show (SemLoc.dma cc0_scratch8.sem : SemLoc sig).isScoped .scVector = true; decide⟩⟩⟩),
    SparseCore.bigSep_erase' (Finset.mem_erase.mpr ⟨fun e => absurd (Prod.mk.inj e).2 (show (SemLoc.dma cc0_scratch9.sem : SemLoc sig) ≠ .dma cc0_scratch8.sem by decide), Finset.mem_erase.mpr ⟨fun e => absurd (Prod.mk.inj e).2 (show (SemLoc.dma cc0_scratch9.sem : SemLoc sig) ≠ .dma cc0_scratch7.sem by decide), Finset.mem_erase.mpr ⟨fun e => absurd (Prod.mk.inj e).2 (show (SemLoc.dma cc0_scratch9.sem : SemLoc sig) ≠ .dma cc0_scratch6.sem by decide), (mem_ownCells (g := ((thr d L, .dma cc0_scratch9.sem) : GSem nD τ sig))).mpr ⟨rfl, by show (SemLoc.dma cc0_scratch9.sem : SemLoc sig).isScoped .scVector = true; decide⟩⟩⟩⟩),
    SparseCore.bigSep_erase' (Finset.mem_erase.mpr ⟨fun e => absurd (Prod.mk.inj e).2 (show (SemLoc.dma cc0_scratch10.sem : SemLoc sig) ≠ .dma cc0_scratch9.sem by decide), Finset.mem_erase.mpr ⟨fun e => absurd (Prod.mk.inj e).2 (show (SemLoc.dma cc0_scratch10.sem : SemLoc sig) ≠ .dma cc0_scratch8.sem by decide), Finset.mem_erase.mpr ⟨fun e => absurd (Prod.mk.inj e).2 (show (SemLoc.dma cc0_scratch10.sem : SemLoc sig) ≠ .dma cc0_scratch7.sem by decide), Finset.mem_erase.mpr ⟨fun e => absurd (Prod.mk.inj e).2 (show (SemLoc.dma cc0_scratch10.sem : SemLoc sig) ≠ .dma cc0_scratch6.sem by decide), (mem_ownCells (g := ((thr d L, .dma cc0_scratch10.sem) : GSem nD τ sig))).mpr ⟨rfl, by show (SemLoc.dma cc0_scratch10.sem : SemLoc sig).isScoped .scVector = true; decide⟩⟩⟩⟩⟩),
    SparseCore.bigSep_erase' (Finset.mem_erase.mpr ⟨fun e => absurd (Prod.mk.inj e).2 (show (SemLoc.dma cc0_scratch11.sem : SemLoc sig) ≠ .dma cc0_scratch10.sem by decide), Finset.mem_erase.mpr ⟨fun e => absurd (Prod.mk.inj e).2 (show (SemLoc.dma cc0_scratch11.sem : SemLoc sig) ≠ .dma cc0_scratch9.sem by decide), Finset.mem_erase.mpr ⟨fun e => absurd (Prod.mk.inj e).2 (show (SemLoc.dma cc0_scratch11.sem : SemLoc sig) ≠ .dma cc0_scratch8.sem by decide), Finset.mem_erase.mpr ⟨fun e => absurd (Prod.mk.inj e).2 (show (SemLoc.dma cc0_scratch11.sem : SemLoc sig) ≠ .dma cc0_scratch7.sem by decide), Finset.mem_erase.mpr ⟨fun e => absurd (Prod.mk.inj e).2 (show (SemLoc.dma cc0_scratch11.sem : SemLoc sig) ≠ .dma cc0_scratch6.sem by decide), (mem_ownCells (g := ((thr d L, .dma cc0_scratch11.sem) : GSem nD τ sig))).mpr ⟨rfl, by show (SemLoc.dma cc0_scratch11.sem : SemLoc sig).isScoped .scVector = true; decide⟩⟩⟩⟩⟩⟩)]

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f)
          ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩)]

theorem some_eq {e : EltTy} (xM : Memref sig .scVector .vmem S16384 e) (hset : xM.view.set = Finset.univ) :
    Some (F := F) d L xM = iprop(∃ f, xM.view.loc (thr d L) ↦{fullShare} f) := by
  unfold Some Holds
  rw [hset]
  have hu : (iprop(∃ X, ∃ f : Buf (Elt F) (xM.view.loc (thr d L)), ⌜xM.view.read (Elt F) f = X⌝ ∗ xM.view.loc (thr d L) ↦{fullShare} f) : sProp 𝕄)
      ⊣⊢ iprop(∃ f, xM.view.loc (thr d L) ↦{fullShare} f) := by
    constructor
    · iintro ⟨%X, %f, -, H⟩; iexists f; iexact H
    · iintro ⟨%f, H⟩; iexists (xM.view.read (Elt F) f); iexists f; isplitr
      · ipureintro; rfl
      · iexact H
  exact BI.equiv_iff.mp ⟨hu.1, hu.2⟩

theorem some_x0 : Some (F := F) d L x0 = iprop(∃ f, (thr d L).loc cc0_scratch0 ↦{fullShare} f) :=
  some_eq d L x0 (by simp only [Memref.view_whole, View.set_whole])
theorem some_x1 : Some (F := F) d L x1 = iprop(∃ f, (thr d L).loc cc0_scratch1 ↦{fullShare} f) :=
  some_eq d L x1 (by simp only [Memref.view_whole, View.set_whole])
theorem some_x2 : Some (F := F) d L x2 = iprop(∃ f, (thr d L).loc cc0_scratch2 ↦{fullShare} f) :=
  some_eq d L x2 (by simp only [Memref.view_whole, View.set_whole])
theorem some_x3 : Some (F := F) d L x3 = iprop(∃ f, (thr d L).loc cc0_scratch3 ↦{fullShare} f) :=
  some_eq d L x3 (by simp only [Memref.view_whole, View.set_whole])
theorem some_y0 : Some (F := F) d L y0 = iprop(∃ f, (thr d L).loc cc0_scratch4 ↦{fullShare} f) :=
  some_eq d L y0 (by simp only [Memref.view_whole, View.set_whole])
theorem some_y1 : Some (F := F) d L y1 = iprop(∃ f, (thr d L).loc cc0_scratch5 ↦{fullShare} f) :=
  some_eq d L y1 (by simp only [Memref.view_whole, View.set_whole])

theorem inPt_nil (a : ℕ) : inPt m d L a a = iprop(emp) := by
  unfold inPt; rw [span_self, pointsTo_empty]
theorem outPt_nil (f : Buf (Elt F) (rLoc d)) (a : ℕ) : outPt d L f a a = iprop(emp) := by
  unfold outPt; rw [span_self, pointsTo_empty]

theorem trips5_eq : k0_t5_loop.trips = 14 := by decide +kernel

/-! ## The run -/

theorem tile_body (hF : (K (F := F)).Facts) (O : CellTallies nD τ sig (HIx 1)) (W : Waits sig (HIx 1)) (hO : ∀ g, O g none = 0) :
    iprop(levAts (K (F := F)).L (K (F := F)).lev ∗ emp ∗ (inPt m d L 0 64 ∗ outPt d L (m (rLoc d)) 0 64)
        ∗ scopedBufs (thr d L) ∗ scopedSems0 (thr d L) ∗ owes (thr d L) O W)
      ⊢ WP d L (cc0__sc_body (F := F) L oV (Memref.isWhole_whole _) bV (Memref.isWhole_whole _) rV (Memref.isWhole_whole _)
          x0 (Memref.isWhole_whole _) x1 (Memref.isWhole_whole _) x2 (Memref.isWhole_whole _) x3 (Memref.isWhole_whole _)
          y0 (Memref.isWhole_whole _) y1 (Memref.isWhole_whole _)
          cc0_scratch6 cc0_scratch7 cc0_scratch8 cc0_scratch9 cc0_scratch10 cc0_scratch11)
        fun _ => iprop((inPt m d L 0 64 ∗ outPt d L (OUT m d) 0 64) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  rw [← some_x0, ← some_x1, ← some_x2, ← some_x3, ← some_y0, ← some_y1]
  simp only [cc0__sc_body_eq_skeleton, cc0__sc_body_skel, k0_part3_eq_skeleton, k0_part3_skel, k0_part4_eq_skeleton, k0_part4_skel,
    k0_part5_eq_skeleton, k0_part5_skel, Prog.lift, Prog.bind_op, Prog.bind_ret, Prog.pure_eq_ret, bind_assoc,
    loop1_eq, loop2_eq, loop3_eq, loop4_eq, loop10_eq, loop11_eq, loop12_eq, loop13_eq]
  iintro ⟨#Hlv, -, ⟨Ht, Ho⟩, ⟨Hx0, Hx1, Hx2, Hx3, Hy0, Hy1, Hbufs⟩, ⟨Hs0, Hs1, Hs2, Hs3, Hs4, Hs5, Hsems⟩, HO⟩
  ihave #Hmw := ((K (F := F)).mayWaits_none (thr := thr d L) hO) $$ Hlv
  ihave Hd := (Entails.of_eq (inPt_nil m d L 0).symm) $$ []; · iempintro
  ihave Hod := (Entails.of_eq (outPt_nil d L (OUT m d) 0).symm) $$ []; · iempintro
  ihave HO := (show owes (thr d L) O W ⊢ OW (F := F) d L O W from by
    unfold OW; iintro H; iexists W; isplitr
    · ipureintro; exact fun p hp => .inl hp
    · iexact H) $$ HO
  iapply (wp_issueIn m d L x0 cc0_scratch6.sem (g := 0) (by decide) (off1_coff L 0#32 0 rfl (by decide))) $$ [Hx0 Hs0 Ht]
  · isplitl [Hx0]; · iexact Hx0
    isplitl [Hs0] <;> iassumption
  iintro ⟨Hf0, Ht⟩
  iapply (wp_issueIn m d L x1 cc0_scratch7.sem (g := 1) (by decide) (off1_coff L 16384#32 1 rfl (by decide))) $$ [Hx1 Hs1 Ht]
  · isplitl [Hx1]; · iexact Hx1
    isplitl [Hs1] <;> iassumption
  iintro ⟨Hf1, Ht⟩
  iapply (wp_issueIn m d L x2 cc0_scratch8.sem (g := 2) (by decide) (off1_coff L 32768#32 2 rfl (by decide))) $$ [Hx2 Hs2 Ht]
  · isplitl [Hx2]; · iexact Hx2
    isplitl [Hs2] <;> iassumption
  iintro ⟨Hf2, Ht⟩
  iapply (wp_issueIn m d L x3 cc0_scratch9.sem (g := 3) (by decide) (off1_coff L 49152#32 3 rfl (by decide))) $$ [Hx3 Hs3 Ht]
  · isplitl [Hx3]; · iexact Hx3
    isplitl [Hs3] <;> iassumption
  iintro ⟨Hf3, Ht⟩
  iapply (wp_slotA m d L x0 cc0_scratch6.sem y0 cc0_scratch10.sem O W (g := 0) (g' := 4) (by decide) (by decide) (off1_coff L 0#32 0 rfl (by decide)) (off1_coff L 65536#32 4 rfl (by decide))) $$ [Hf0 Hd Ht Hy0 Hs4 Ho HO]
  · isplitr; · iexact Hmw
    isplitl [Hf0 Hd Ht]
    · isplitl [Hf0]; · iexact Hf0
      isplitl [Hd] <;> iassumption
    isplitl [Hy0 Hs4 Ho]
    · isplitl [Hy0 Hs4]
      · isplitl [Hy0] <;> iassumption
      iexact Ho
    iexact HO
  iintro ⟨⟨Hf0, Hd, Ht⟩, ⟨Hg0, Ho⟩, HO⟩
  iapply (wp_slotA m d L x1 cc0_scratch7.sem y1 cc0_scratch11.sem O W (g := 1) (g' := 5) (by decide) (by decide) (off1_coff L 16384#32 1 rfl (by decide)) (off1_coff L 81920#32 5 rfl (by decide))) $$ [Hf1 Hd Ht Hy1 Hs5 Ho HO]
  · isplitr; · iexact Hmw
    isplitl [Hf1 Hd Ht]
    · isplitl [Hf1]; · iexact Hf1
      isplitl [Hd] <;> iassumption
    isplitl [Hy1 Hs5 Ho]
    · isplitl [Hy1 Hs5]
      · isplitl [Hy1] <;> iassumption
      iexact Ho
    iexact HO
  iintro ⟨⟨Hf1, Hd, Ht⟩, ⟨Hg1, Ho⟩, HO⟩
  iapply (wp_slotB m d L x2 cc0_scratch8.sem y0 cc0_scratch10.sem O W (g := 2) (g' := 6) 0 (by decide) (by decide) (off1_coff L 32768#32 2 rfl (by decide)) (off1_coff L 98304#32 6 rfl (by decide))) $$ [Hf2 Hd Ht Hg0 Hod Ho HO]
  · isplitr; · iexact Hmw
    isplitl [Hf2 Hd Ht]
    · isplitl [Hf2]; · iexact Hf2
      isplitl [Hd] <;> iassumption
    isplitl [Hg0 Hod Ho]
    · isplitl [Hg0]; · iexact Hg0
      isplitl [Hod] <;> iassumption
    iexact HO
  iintro ⟨⟨Hf2, Hd, Ht⟩, ⟨Hg0, Hod, Ho⟩, HO⟩
  iapply (wp_slotB m d L x3 cc0_scratch9.sem y1 cc0_scratch11.sem O W (g := 3) (g' := 7) 1 (by decide) (by decide) (off1_coff L 49152#32 3 rfl (by decide)) (off1_coff L 114688#32 7 rfl (by decide))) $$ [Hf3 Hd Ht Hg1 Hod Ho HO]
  · isplitr; · iexact Hmw
    isplitl [Hf3 Hd Ht]
    · isplitl [Hf3]; · iexact Hf3
      isplitl [Hd] <;> iassumption
    isplitl [Hg1 Hod Ho]
    · isplitl [Hg1]; · iexact Hg1
      isplitl [Hod] <;> iassumption
    iexact HO
  iintro ⟨⟨Hf3, Hd, Ht⟩, ⟨Hg1, Hod, Ho⟩, HO⟩
  -- the ring
  iapply (Scf.wp_for_bind (Fr := frame) (wpE := wpE (defs₀ (F := F)) 𝒱₀ (thr d L) none) (Es := Set.univ) _ _ _ k0_t5_ok ⟨⟩ _
    (fun t _ => RING m d L O W t) (fun t u => ring_trip m d L O W _ t u)) $$ [Hf0 Hf1 Hf2 Hf3 Hd Ht Hg0 Hg1 Hod Ho HO]
  · unfold RING
    isplitr; · iexact Hmw
    isplitl [Hf0 Hf1 Hf2 Hf3 Hd Ht]
    · isplitl [Hf0]; · iexact Hf0
      isplitl [Hf1]; · iexact Hf1
      isplitl [Hf2]; · iexact Hf2
      isplitl [Hf3]; · iexact Hf3
      isplitl [Hd] <;> iassumption
    isplitl [Hg0 Hg1 Hod Ho]
    · isplitl [Hg0]; · iexact Hg0
      isplitl [Hg1]; · iexact Hg1
      isplitl [Hod] <;> iassumption
    iexact HO
  iintro %u H
  ihave H := (show RING m d L O W (Scf.trips k0_t5_loop.lb k0_t5_loop.ub k0_t5_loop.st) ⊢ RING m d L O W 14 from
    Entails.of_eq (congrArg (RING m d L O W) trips5_eq)) $$ H
  unfold RING
  icases H with ⟨-, ⟨Hf0, Hf1, Hf2, Hf3, Hd, Ht⟩, ⟨Hg0, Hg1, Hod, Ho⟩, HO⟩
  iapply (wp_slotC m d L x0 cc0_scratch6.sem y0 cc0_scratch10.sem O W (g := 60) 58 (by decide) (off1_coff L 983040#32 60 rfl (by decide))) $$ [Hf0 Hd Hg0 Hod Ho HO]
  · isplitr; · iexact Hmw
    isplitl [Hf0 Hd]
    · isplitl [Hf0] <;> iassumption
    isplitl [Hg0 Hod Ho]
    · isplitl [Hg0]; · iexact Hg0
      isplitl [Hod] <;> iassumption
    iexact HO
  iintro ⟨⟨Hx0, Hs0⟩, Hd, ⟨Hg0, Hod, Ho⟩, HO⟩
  iapply (wp_slotC m d L x1 cc0_scratch7.sem y1 cc0_scratch11.sem O W (g := 61) 59 (by decide) (off1_coff L 999424#32 61 rfl (by decide))) $$ [Hf1 Hd Hg1 Hod Ho HO]
  · isplitr; · iexact Hmw
    isplitl [Hf1 Hd]
    · isplitl [Hf1] <;> iassumption
    isplitl [Hg1 Hod Ho]
    · isplitl [Hg1]; · iexact Hg1
      isplitl [Hod] <;> iassumption
    iexact HO
  iintro ⟨⟨Hx1, Hs1⟩, Hd, ⟨Hg1, Hod, Ho⟩, HO⟩
  iapply (wp_slotC m d L x2 cc0_scratch8.sem y0 cc0_scratch10.sem O W (g := 62) 60 (by decide) (off1_coff L 1015808#32 62 rfl (by decide))) $$ [Hf2 Hd Hg0 Hod Ho HO]
  · isplitr; · iexact Hmw
    isplitl [Hf2 Hd]
    · isplitl [Hf2] <;> iassumption
    isplitl [Hg0 Hod Ho]
    · isplitl [Hg0]; · iexact Hg0
      isplitl [Hod] <;> iassumption
    iexact HO
  iintro ⟨⟨Hx2, Hs2⟩, Hd, ⟨Hg0, Hod, Ho⟩, HO⟩
  iapply (wp_slotC m d L x3 cc0_scratch9.sem y1 cc0_scratch11.sem O W (g := 63) 61 (by decide) (off1_coff L 1032192#32 63 rfl (by decide))) $$ [Hf3 Hd Hg1 Hod Ho HO]
  · isplitr; · iexact Hmw
    isplitl [Hf3 Hd]
    · isplitl [Hf3] <;> iassumption
    isplitl [Hg1 Hod Ho]
    · isplitl [Hg1]; · iexact Hg1
      isplitl [Hod] <;> iassumption
    iexact HO
  iintro ⟨⟨Hx3, Hs3⟩, Hd, ⟨Hg1, Hod, Ho⟩, HO⟩
  iapply (wp_waitOut m d L y0 cc0_scratch10.sem 62 O W) $$ [Hg0 Hod HO]
  · isplitr; · iexact Hmw
    isplitl [Hg0]; · iexact Hg0
    isplitl [Hod] <;> iassumption
  iintro ⟨Hy0, Hs4, Hod, HO⟩
  iapply (wp_waitOut m d L y1 cc0_scratch11.sem 63 O W) $$ [Hg1 Hod HO]
  · isplitr; · iexact Hmw
    isplitl [Hg1]; · iexact Hg1
    isplitl [Hod] <;> iassumption
  iintro ⟨Hy1, Hs5, Hod, HO⟩
  unfold WP; rw [wp_ret]; imodintro
  isplitl [Hd Hod]
  · isplitl [Hd] <;> iassumption
  isplitl [Hx0 Hx1 Hx2 Hx3 Hy0 Hy1 Hbufs]
  · isplitl [Hx0]; · iexact Hx0
    isplitl [Hx1]; · iexact Hx1
    isplitl [Hx2]; · iexact Hx2
    isplitl [Hx3]; · iexact Hx3
    isplitl [Hy0]; · iexact Hy0
    isplitl [Hy1] <;> iassumption
  isplitl [Hs0 Hs1 Hs2 Hs3 Hs4 Hs5 Hsems]
  · isplitl [Hs0]; · iexact Hs0
    isplitl [Hs1]; · iexact Hs1
    isplitl [Hs2]; · iexact Hs2
    isplitl [Hs3]; · iexact Hs3
    isplitl [Hs4]; · iexact Hs4
    isplitl [Hs5] <;> iassumption
  unfold OW; iexact HO

end Cert.Proof.Quant
end
-- ==== Proof.Launch.lean ====
/-
  The launch: how `o` and the result are dealt out to the SparseCores and their tiles and gathered again, `@main` on the
  TensorCore, and the run of the whole program — the arguments unchanged, the result `OUT`, every semaphore at zero.
-/
module

public import proofs.«01_k».proof.Proof.Tile

@[expose] public section

noncomputable section

namespace Cert.Proof.Quant

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx Pay tileRest ownBufs ownSems0 ownCells ownRefs mem_ownCells mem_ownRefs)
open Idealize.ShloMosaic.Rounds

variable {F : FTy → Type} [FloatOps F]

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

omit [FloatOps F] in
theorem nCore_zero : (K (F := F)).nCore 0 = 2 := rfl
omit [FloatOps F] in
theorem nSub_zero : (K (F := F)).nSub 0 = 16 := rfl

/-! ## The parts of the arrays -/

def coordsV (c : Fin (grid0.bound 0)) (s : Fin (grid0.bound 1)) : grid0.Coords :=
  fun | 0 => c | 1 => s | ⟨_ + 2, h⟩ => absurd h (Nat.not_lt.2 (Nat.le_add_left _ _))

/-- Tile `s` of SparseCore `c`. -/
abbrev tl (c : Fin 2) (s : Fin 16) : grid0.Coords := coordsV c s

theorem base_tl (c : Fin 2) (s : Fin 16) : base (tl c s) = 16777216 * c.val + 1048576 * s.val := rfl

/-- SparseCore `c`'s half of the elements. -/
def half (c : Fin 2) : Finset S33554432.Idx :=
  Finset.univ.filter fun i => 16777216 * c.val ≤ (i 0).val ∧ (i 0).val < 16777216 * c.val + 16777216

theorem mem_half {c : Fin 2} {i : S33554432.Idx} :
    i ∈ half c ↔ 16777216 * c.val ≤ (i 0).val ∧ (i 0).val < 16777216 * c.val + 16777216 := by
  unfold half; rw [Finset.mem_filter]; exact ⟨fun h => h.2, fun h => ⟨Finset.mem_univ _, h⟩⟩

theorem half_disjoint : ∀ c ∈ (Finset.univ : Finset (Fin 2)), ∀ c' ∈ (Finset.univ : Finset (Fin 2)), c ≠ c' → Disjoint (half c) (half c') := by
  intro c _ c' _ h
  refine Finset.disjoint_left.mpr fun i h1 h2 => h (Fin.ext ?_)
  rw [mem_half] at h1 h2; omega

theorem half_cover : (Finset.univ : Finset (Fin 2)).biUnion half = Finset.univ := by
  refine Finset.eq_univ_of_forall fun i => Finset.mem_biUnion.mpr ?_
  have hi : (i 0).val < 33554432 := (i 0).isLt
  refine ⟨⟨(i 0).val / 16777216, by omega⟩, Finset.mem_univ _, mem_half.mpr ?_⟩
  show 16777216 * ((i 0).val / 16777216) ≤ _ ∧ _ < 16777216 * ((i 0).val / 16777216) + 16777216
  omega

theorem tile_disjoint (c : Fin 2) : ∀ s ∈ (Finset.univ : Finset (Fin 16)), ∀ s' ∈ (Finset.univ : Finset (Fin 16)), s ≠ s' →
    Disjoint (span (tl c s) 0 64) (span (tl c s') 0 64) := by
  intro s _ s' _ h
  refine Finset.disjoint_left.mpr fun i h1 h2 => h (Fin.ext ?_)
  rw [mem_span, base_tl] at h1 h2; omega

theorem tile_cover (c : Fin 2) : (Finset.univ : Finset (Fin 16)).biUnion (fun s => span (tl c s) 0 64) = half c := by
  refine Finset.ext fun i => ?_
  rw [Finset.mem_biUnion, mem_half]
  constructor
  · rintro ⟨s, -, h⟩
    rw [mem_span, base_tl] at h
    have := s.isLt; omega
  · intro h
    refine ⟨⟨((i 0).val - 16777216 * c.val) / 1048576, by omega⟩, Finset.mem_univ _, ?_⟩
    rw [mem_span, base_tl]
    show 16777216 * c.val + 1048576 * (((i 0).val - 16777216 * c.val) / 1048576) + 16384 * 0 ≤ _
      ∧ _ < 16777216 * c.val + 1048576 * (((i 0).val - 16777216 * c.val) / 1048576) + 16384 * 64
    omega

/-- SparseCore `c`'s half of `o`, and of the result at the elements of `f`. -/
def inHalf (d : Dev nD) (c : Fin 2) : sProp 𝕄 := oLoc d ↦[half c]{fullShare} m (oLoc d)
def outHalf (d : Dev nD) (f : Buf (Elt F) (rLoc d)) (c : Fin 2) : sProp 𝕄 := rLoc d ↦[half c]{fullShare} f

omit [FloatOps F] in
theorem inHalf_tiles (d : Dev nD) (c : Fin 2) : inHalf m d c = bigSep Finset.univ fun s : Fin 16 => inPt m d (tl c s) 0 64 := by
  unfold inHalf inPt
  rw [← pointsTo_biUnion Finset.univ (ℓ := oLoc d) (fun s => span (tl c s) 0 64) (tile_disjoint c), tile_cover]
omit [FloatOps F] in
theorem outHalf_tiles (d : Dev nD) (f : Buf (Elt F) (rLoc d)) (c : Fin 2) :
    outHalf d f c = bigSep Finset.univ fun s : Fin 16 => outPt d (tl c s) f 0 64 := by
  unfold outHalf outPt
  rw [← pointsTo_biUnion Finset.univ (ℓ := rLoc d) (fun s => span (tl c s) 0 64) (tile_disjoint c), tile_cover]
omit [FloatOps F] in
theorem in_halves (d : Dev nD) : (oLoc d ↦{fullShare} m (oLoc d) : sProp 𝕄) = bigSep Finset.univ fun c : Fin 2 => inHalf m d c := by
  unfold inHalf
  rw [← pointsTo_biUnion Finset.univ (ℓ := oLoc d) half half_disjoint, half_cover]
omit [FloatOps F] in
theorem out_halves (d : Dev nD) (f : Buf (Elt F) (rLoc d)) : (rLoc d ↦{fullShare} f : sProp 𝕄) = bigSep Finset.univ fun c : Fin 2 => outHalf d f c := by
  unfold outHalf
  rw [← pointsTo_biUnion Finset.univ (ℓ := rLoc d) half half_disjoint, half_cover]

/-! ## What the handshakes carry -/

def P : (K (F := F)).Pay (nD := nD) (Val := Elt F) (Name := ℕ) (U := UU) where
  st := fun q d c => match q with | 0 => iprop(inHalf m d (Fin.cast nCore_zero c) ∗ outHalf d (m (rLoc d)) (Fin.cast nCore_zero c))
  dn := fun q d c => match q with | 0 => iprop(inHalf m d (Fin.cast nCore_zero c) ∗ outHalf d (OUT m d) (Fin.cast nCore_zero c))
  go := fun q d c i => match q with
    | 0 => iprop(inPt m d (tl (Fin.cast nCore_zero c) (Fin.cast nSub_zero i)) 0 64 ∗ outPt d (tl (Fin.cast nCore_zero c) (Fin.cast nSub_zero i)) (m (rLoc d)) 0 64)
  td := fun q d c i => match q with
    | 0 => iprop(inPt m d (tl (Fin.cast nCore_zero c) (Fin.cast nSub_zero i)) 0 64 ∗ outPt d (tl (Fin.cast nCore_zero c) (Fin.cast nSub_zero i)) (OUT m d) 0 64)
  x := fun _ _ => iprop(emp)

instance inPt_storable (d : Dev nD) (L : grid0.Coords) (a b : ℕ) : BI.Storable (upEmb : UEmb _ 𝕄) (inPt m d L a b) := by
  unfold inPt; infer_instance
instance outPt_storable (d : Dev nD) (L : grid0.Coords) (f : Buf (Elt F) (rLoc d)) (a b : ℕ) : BI.Storable (upEmb : UEmb _ 𝕄) (outPt d L f a b) := by
  unfold outPt; infer_instance
instance inHalf_storable (d : Dev nD) (c : Fin 2) : BI.Storable (upEmb : UEmb _ 𝕄) (inHalf m d c) := by
  unfold inHalf; infer_instance
instance outHalf_storable (d : Dev nD) (f : Buf (Elt F) (rLoc d)) (c : Fin 2) : BI.Storable (upEmb : UEmb _ 𝕄) (outHalf d f c) := by
  unfold outHalf; infer_instance

instance P_storable : (P (F := F) m).IsStorable where
  st q d c := match q with
    | 0 => (inferInstance : BI.Storable (upEmb : UEmb _ 𝕄) iprop(inHalf m d (Fin.cast nCore_zero c) ∗ outHalf d (m (rLoc d)) (Fin.cast nCore_zero c)))
  dn q d c := match q with
    | 0 => (inferInstance : BI.Storable (upEmb : UEmb _ 𝕄) iprop(inHalf m d (Fin.cast nCore_zero c) ∗ outHalf d (OUT m d) (Fin.cast nCore_zero c)))
  go q d c i := match q with
    | 0 => (inferInstance : BI.Storable (upEmb : UEmb _ 𝕄)
        iprop(inPt m d (tl (Fin.cast nCore_zero c) (Fin.cast nSub_zero i)) 0 64 ∗ outPt d (tl (Fin.cast nCore_zero c) (Fin.cast nSub_zero i)) (m (rLoc d)) 0 64))
  td q d c i := match q with
    | 0 => (inferInstance : BI.Storable (upEmb : UEmb _ 𝕄)
        iprop(inPt m d (tl (Fin.cast nCore_zero c) (Fin.cast nSub_zero i)) 0 64 ∗ outPt d (tl (Fin.cast nCore_zero c) (Fin.cast nSub_zero i)) (OUT m d) 0 64))

/-! ## The launch theorem's obligations -/

theorem defs₀_vector (c : Fin τ.nSC) (s : Fin τ.nSub) :
    defs₀ (F := F) (.scVector c s) 0 ()
      = SparseCore.onTile hcore0 hsub0 (fun c s => cc0__sc_body (coordsV c s)
          oV (Memref.isWhole_whole _) bV (Memref.isWhole_whole _) rV (Memref.isWhole_whole _)
          x0 (Memref.isWhole_whole _) x1 (Memref.isWhole_whole _) x2 (Memref.isWhole_whole _) x3 (Memref.isWhole_whole _)
          y0 (Memref.isWhole_whole _) y1 (Memref.isWhole_whole _)
          cc0_scratch6 cc0_scratch7 cc0_scratch8 cc0_scratch9 cc0_scratch10 cc0_scratch11) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show iprop(inHalf m d (Fin.cast nCore_zero c) ∗ outHalf d (m (rLoc d)) (Fin.cast nCore_zero c)) ⊢ |={Set.univ}=> iprop(
      (bigSep Finset.univ fun i : Fin ((K (F := F)).nSub 0) =>
        iprop(inPt m d (tl (Fin.cast nCore_zero c) (Fin.cast nSub_zero i)) 0 64 ∗ outPt d (tl (Fin.cast nCore_zero c) (Fin.cast nSub_zero i)) (m (rLoc d)) 0 64))
      ∗ ((bigSep Finset.univ fun i : Fin ((K (F := F)).nSub 0) =>
          iprop(inPt m d (tl (Fin.cast nCore_zero c) (Fin.cast nSub_zero i)) 0 64 ∗ outPt d (tl (Fin.cast nCore_zero c) (Fin.cast nSub_zero i)) (OUT m d) 0 64))
          -∗ iprop(inHalf m d (Fin.cast nCore_zero c) ∗ outHalf d (OUT m d) (Fin.cast nCore_zero c))))
  generalize Fin.cast nCore_zero c = c'
  rw [bigSep_tasks (F := F) (fun i => iprop(inPt m d (tl c' i) 0 64 ∗ outPt d (tl c' i) (m (rLoc d)) 0 64)),
    bigSep_tasks (F := F) (fun i => iprop(inPt m d (tl c' i) 0 64 ∗ outPt d (tl c' i) (OUT m d) 0 64)), bigSep_sep', bigSep_sep',
    inHalf_tiles, outHalf_tiles, outHalf_tiles]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((oLoc d ↦{fullShare} W main_arg0) ∗ (bLoc d ↦{fullShare} W main_arg1) ∗ rLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c)
    = iprop((oLoc d ↦{fullShare} m (oLoc d)) ∗ rLoc d ↦{fullShare} m (rLoc d)) := by
  rw [in_halves, out_halves, ← bigSep_sep']
  exact bigSep_cores (F := F) (fun c => iprop(inHalf m d c ∗ outHalf d (m (rLoc d)) c))
theorem dn0_eq (d : Dev nD) : (bigSep Finset.univ fun c : Fin ((K (F := F)).nCore 0) => (P m).dn 0 d c)
    = iprop((oLoc d ↦{fullShare} m (oLoc d)) ∗ rLoc d ↦{fullShare} OUT m d) := by
  rw [in_halves, out_halves, ← bigSep_sep']
  exact bigSep_cores (F := F) (fun c => iprop(inHalf m d c ∗ outHalf d (OUT m d) c))

abbrev FIN (d : Dev nD) : sProp 𝕄 :=
  iprop((oLoc d ↦{fullShare} m (oLoc d)) ∗ (bLoc d ↦{fullShare} m (bLoc d)) ∗ rLoc d ↦{fullShare} OUT m d)

/-- `@main` on device `d`'s TensorCore: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hi, Hx, Ho⟩, Hts, -⟩, -⟩
  iapply ((K (F := F)).wp_run (D (F := F)) 𝒱 (EH := EH) (P := P m) κ d 0) $$ [Hst Hi Hx Ho Hb Hts]
  isplitr; · iexact Hctx
  isplitl [Hst]; · iexact Hst
  isplitl [Hi Ho]
  · rw [st0_eq]
    isplitl [Hi]; · iexact Hi
    iexact Ho
  iintro ⟨Hst, Hdn⟩
  ihave Hdn' := (Entails.of_eq (dn0_eq m d)) $$ Hdn
  icases Hdn' with ⟨Hi, Ho⟩
  imodintro
  isplitl [Hst]; · iexact Hst
  isplitr [Hb Hts]
  · isplitl [Hi]; · iexact Hi
    isplitl [Hx]; · iexact Hx
    iexact Ho
  isplitl [Hb] <;> iassumption

def fq (d : Dev nD) (s' : Phys nD τ sig (Elt F)) : Prop :=
  s'.mem.mem (oLoc d) = m (oLoc d) ∧ s'.mem.mem (bLoc d) = m (bLoc d) ∧ s'.mem.mem (rLoc d) = OUT m d

theorem hfin (d : Dev nD) (s' : Phys nD τ sig (Elt F)) : iprop(FIN m d ∗ SI s') ⊢ (⌜fq m d s'⌝ : sProp 𝕄) := by
  iintro ⟨⟨Hi, Hx, Ho⟩, HSI⟩
  ihave H := (persistent_entails_right (SI_pointsTo_agree (st := s') (ℓ := oLoc d) (I := Finset.univ) (q := fullShare) (f := m (oLoc d)))) $$ [HSI Hi]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hx]
  · isplitl [HSI] <;> iassumption
  icases H with ⟨%h2, HSI, -⟩
  ihave H := (SI_pointsTo_agree (st := s') (ℓ := rLoc d) (I := Finset.univ) (q := fullShare) (f := OUT m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  (∀ c : Dev nD, r.2.mem (oLoc c) = m (oLoc c) ∧ r.2.mem (bLoc c) = m (bLoc c) ∧ r.2.mem (rLoc c) = OUT m c) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Quant

end
-- ==== Proof.Edges.lean ====
/-
  The arithmetic: how many of the 255 edges `(q - 127)·4/127` lie at or below (strictly below) a given extended real,
  as the kernel's scale, shift, clamp and rounding compute it.
-/
module

public import Idealize.ShloMosaic.PureOps.Ideal
public import Mathlib.Tactic.Linarith
public import Mathlib.Tactic.NormNum
public import Mathlib.Tactic.Positivity
public import Mathlib.Order.Interval.Finset.Nat
public import Mathlib.Data.Nat.Count

@[expose] public section

noncomputable section

namespace Cert.Proof.Edges

open Idealize.ShloMosaic

/-! ## The constants the programs spell as words -/

theorem c_scale : Ideal.ofBits .f32 0x41FE0000#32 = ((31.75 : ℝ) : EReal) := by
  simp [Ideal.ofBits, Ideal.ieee, -EReal.coe_mul]; norm_num
theorem c_shift : Ideal.ofBits .f32 0x43000000#32 = ((128 : ℝ) : EReal) := by
  simp [Ideal.ofBits, Ideal.ieee, -EReal.coe_mul]; norm_num
theorem c_zero : Ideal.ofBits .f32 0x00000000#32 = ((0 : ℝ) : EReal) := by
  simp [Ideal.ofBits, Ideal.ieee]
theorem c_top : Ideal.ofBits .f32 0x437F0000#32 = ((255 : ℝ) : EReal) := by
  simp [Ideal.ofBits, Ideal.ieee, -EReal.coe_mul]; norm_num
theorem c_four : Ideal.ofBits .f32 0x40800000#32 = ((4 : ℝ) : EReal) := by
  simp [Ideal.ofBits, Ideal.ieee, -EReal.coe_mul]; norm_num
theorem c_mid : Ideal.ofBits .f32 0x42FE0000#32 = ((127 : ℝ) : EReal) := by
  simp [Ideal.ofBits, Ideal.ieee, -EReal.coe_mul]; norm_num

/-! ## The edges -/

/-- Edge `q`: the 255 of them run from -4 to 4 in equal steps. -/
def edge (q : ℕ) : ℝ := ((q : ℝ) - 127) * 4 / 127

theorem edge_le_iff (q : ℕ) (r : ℝ) : edge q ≤ r ↔ (q : ℝ) + 1 ≤ r * 31.75 + 128 := by
  unfold edge
  constructor <;> intro h <;> norm_num at h ⊢ <;> linarith

theorem edge_lt_iff (q : ℕ) (r : ℝ) : edge q < r ↔ (q : ℝ) < (r + 4) * 31.75 := by
  unfold edge
  constructor <;> intro h <;> norm_num at h ⊢ <;> linarith

/-- How many edges are at or below `x`. -/
def atMost (x : EReal) : ℕ := Nat.count (fun q => ((edge q : ℝ) : EReal) ≤ x) 255
/-- How many edges are below `x`. -/
def below (x : EReal) : ℕ := Nat.count (fun q => ((edge q : ℝ) : EReal) < x) 255

/-- Of the first `N` naturals, those below `n ≤ N` are `n`. -/
theorem count_lt {N n : ℕ} (h : n ≤ N) (Q : ℕ → Prop) [DecidablePred Q] (hQ : ∀ q, q < N → (Q q ↔ q < n)) : Nat.count Q N = n := by
  rw [Nat.count_eq_card_filter_range]
  have : (Finset.range N).filter Q = Finset.range n := by
    ext q
    rw [Finset.mem_filter, Finset.mem_range, Finset.mem_range]
    constructor
    · exact fun ⟨h1, h2⟩ => (hQ q h1).mp h2
    · exact fun h1 => ⟨lt_of_lt_of_le h1 h, (hQ q (lt_of_lt_of_le h1 h)).mpr h1⟩
  rw [this, Finset.card_range]

theorem atMost_bot : atMost ⊥ = 0 :=
  count_lt (by omega) _ fun q _ => ⟨fun h => absurd (le_bot_iff.mp h) (EReal.coe_ne_bot _), fun h => absurd h (Nat.not_lt_zero _)⟩
theorem atMost_top : atMost ⊤ = 255 :=
  count_lt (le_refl _) _ fun q hq => ⟨fun _ => hq, fun _ => le_top⟩
theorem below_bot : below ⊥ = 0 :=
  count_lt (by omega) _ fun q _ => ⟨fun h => absurd h not_lt_bot, fun h => absurd h (Nat.not_lt_zero _)⟩
theorem below_top : below ⊤ = 255 :=
  count_lt (le_refl _) _ fun q hq => ⟨fun _ => hq, fun _ => EReal.coe_lt_top _⟩

/-- Where no edge is `x`, the two counts agree. -/
theorem atMost_eq_below {x : EReal} (h : ∀ q, q < 255 → ((edge q : ℝ) : EReal) ≠ x) : atMost x = below x := by
  unfold atMost below
  rw [Nat.count_eq_card_filter_range, Nat.count_eq_card_filter_range]
  refine congrArg Finset.card (Finset.filter_congr fun q hq => ?_)
  exact ⟨fun h1 => lt_of_le_of_ne h1 (h q (Finset.mem_range.mp hq)), le_of_lt⟩

/-- `u` clamped to `[0, 255]`. -/
def clamp (u : ℝ) : ℝ := min (max u 0) 255

theorem clamp_nonneg (u : ℝ) : 0 ≤ clamp u := le_min (le_max_right _ _) (by norm_num)
theorem clamp_le (u : ℝ) : clamp u ≤ 255 := min_le_right _ _

/-- The clamped, truncated scale counts the edges at or below. -/
theorem floor_eq (r : ℝ) : ⌊clamp (r * 31.75 + 128)⌋ = (atMost (r : EReal) : ℤ) := by
  have h0 := clamp_nonneg (r * 31.75 + 128)
  have h1 := clamp_le (r * 31.75 + 128)
  have hn : (⌊clamp (r * 31.75 + 128)⌋₊ : ℤ) = ⌊clamp (r * 31.75 + 128)⌋ := Int.natCast_floor_eq_floor h0
  have hle : ⌊clamp (r * 31.75 + 128)⌋₊ ≤ 255 := by
    have := Nat.floor_le_floor h1
    rwa [show (255 : ℝ) = ((255 : ℕ) : ℝ) by norm_num, Nat.floor_natCast] at this
  rw [← hn]
  refine congrArg _ (Eq.symm (count_lt hle _ fun q hq => ?_))
  have hq' : (q : ℝ) + 1 ≤ 255 := by exact_mod_cast hq
  have hq0 : (0 : ℝ) < (q : ℝ) + 1 := by positivity
  rw [EReal.coe_le_coe_iff, edge_le_iff, ← Nat.succ_le_iff, Nat.le_floor_iff h0]
  have hs : ((Nat.succ q : ℕ) : ℝ) = (q : ℝ) + 1 := by push_cast; ring
  rw [hs]
  unfold clamp
  rw [le_min_iff, le_max_iff]
  exact ⟨fun h => ⟨.inl h, hq'⟩, fun h => h.1.resolve_right (not_le.mpr hq0)⟩

/-- The clamped scale rounded up counts the edges below. -/
theorem ceil_eq (r : ℝ) : ⌈clamp ((r + 4) * 31.75)⌉ = (below (r : EReal) : ℤ) := by
  have h0 := clamp_nonneg ((r + 4) * 31.75)
  have h1 := clamp_le ((r + 4) * 31.75)
  have hn : (⌈clamp ((r + 4) * 31.75)⌉₊ : ℤ) = ⌈clamp ((r + 4) * 31.75)⌉ := Int.natCast_ceil_eq_ceil h0
  have hle : ⌈clamp ((r + 4) * 31.75)⌉₊ ≤ 255 := by
    rw [Nat.ceil_le]; exact_mod_cast h1
  rw [← hn]
  refine congrArg _ (Eq.symm (count_lt hle _ fun q hq => ?_))
  have hq' : (q : ℝ) < 255 := by exact_mod_cast hq
  have hq0 : (0 : ℝ) ≤ (q : ℝ) := by positivity
  rw [EReal.coe_lt_coe_iff, edge_lt_iff, Nat.lt_ceil]
  unfold clamp
  rw [lt_min_iff, lt_max_iff]
  exact ⟨fun h => ⟨.inl h, hq'⟩, fun h => h.1.resolve_right (not_lt.mpr hq0)⟩

theorem ofInt_natCast (n : ℕ) : BitVec.ofInt 32 (n : ℤ) = BitVec.ofNat 32 n := by
  exact BitVec.ofInt_natCast 32 n

/-- The word a real in `[0, 255]` converts to. -/
theorem fptosi_coe {v : ℝ} (h0 : 0 ≤ v) (h1 : v ≤ 255) : Ideal.fptosi 32 (v : EReal) = BitVec.ofInt 32 ⌊v⌋ := by
  unfold Ideal.fptosi
  rw [Ideal.toIntClamped_coe, if_pos h0]
  have hf0 : 0 ≤ ⌊v⌋ := Int.floor_nonneg.mpr h0
  have hf1 : ⌊v⌋ ≤ 255 := by
    have := Int.floor_le_floor h1
    rwa [show (255 : ℝ) = ((255 : ℤ) : ℝ) by norm_num, Int.floor_intCast] at this
  congr 1
  have : (((2 ^ (32 - 1) : ℕ) : ℤ)) = 2147483648 := by norm_num
  rw [this, min_eq_right (by omega), max_eq_right (by omega)]

theorem coe_max' (a b : ℝ) : ((max a b : ℝ) : EReal) = max (a : EReal) (b : EReal) := EReal.coe_strictMono.monotone.map_max
theorem coe_min' (a b : ℝ) : ((min a b : ℝ) : EReal) = min (a : EReal) (b : EReal) := EReal.coe_strictMono.monotone.map_min

/-- The kernel's element function over the extended reals: scale, shift, clamp, truncate. -/
def quant (x : EReal) : BitVec 32 :=
  Ideal.fptosi 32 (min (max (x * ((31.75 : ℝ) : EReal) + ((128 : ℝ) : EReal)) ((0 : ℝ) : EReal)) ((255 : ℝ) : EReal))

theorem quant_eq (x : EReal) : quant x = BitVec.ofNat 32 (atMost x) := by
  unfold quant
  induction x with
  | bot =>
    rw [EReal.bot_mul_coe_of_pos (by norm_num), EReal.bot_add, max_eq_right bot_le, min_eq_left (by exact_mod_cast (by norm_num : (0 : ℝ) ≤ 255)),
      fptosi_coe (le_refl _) (by norm_num), atMost_bot, Int.floor_zero]
    rfl
  | top =>
    rw [EReal.top_mul_coe_of_pos (by norm_num), EReal.top_add_coe, max_eq_left le_top, min_eq_right le_top,
      fptosi_coe (by norm_num) (le_refl _), atMost_top, show (255 : ℝ) = ((255 : ℤ) : ℝ) by norm_num, Int.floor_intCast]
    rfl
  | coe r =>
    rw [← EReal.coe_mul, ← EReal.coe_add, ← coe_max', ← coe_min']
    rw [show min (max (r * 31.75 + 128) 0) 255 = clamp (r * 31.75 + 128) from rfl, fptosi_coe (clamp_nonneg _) (clamp_le _), floor_eq, ofInt_natCast]

/-- The word a real in `[0, 255]` rounds up to: its conversion, and one more where that is below it. -/
def roundUp (t : EReal) : BitVec 32 :=
  Scalar.select (Ideal.cmp .olt (((Ideal.fptosi 32 t).toInt : ℝ) : EReal) t) (Ideal.fptosi 32 t + 1#32) (Ideal.fptosi 32 t)

theorem roundUp_coe {v : ℝ} (h0 : 0 ≤ v) (h1 : v ≤ 255) : roundUp (v : EReal) = BitVec.ofInt 32 ⌈v⌉ := by
  have hf0 : 0 ≤ ⌊v⌋ := Int.floor_nonneg.mpr h0
  have hf1 : ⌊v⌋ ≤ 255 := by
    have := Int.floor_le_floor h1
    rwa [show (255 : ℝ) = ((255 : ℤ) : ℝ) by norm_num, Int.floor_intCast] at this
  unfold roundUp Scalar.select Ideal.cmp
  rw [fptosi_coe h0 h1, show (BitVec.ofInt 32 ⌊v⌋).toInt = ⌊v⌋ by
    rw [BitVec.toInt_ofInt, Int.bmod_eq_of_le (by norm_num; omega) (by norm_num; omega)]]
  by_cases h' : ((⌊v⌋ : ℤ) : ℝ) < v
  · have h : (((⌊v⌋ : ℤ) : ℝ) : EReal) < (v : EReal) := EReal.coe_lt_coe_iff.mpr h'
    have hc : ⌈v⌉ = ⌊v⌋ + 1 := by
      rw [Int.ceil_eq_iff]
      refine ⟨?_, ?_⟩
      · push_cast; linarith
      · push_cast; exact (Int.lt_floor_add_one v).le
    rw [if_pos (show BitVec.ofBool (decide _) = 1 by rw [decide_eq_true h]; rfl), hc, BitVec.ofInt_add]
    rfl
  · have hv : ((⌊v⌋ : ℤ) : ℝ) = v := le_antisymm (Int.floor_le v) (not_lt.mp h')
    have h : ¬ (((⌊v⌋ : ℤ) : ℝ) : EReal) < (v : EReal) := fun e => h' (EReal.coe_lt_coe_iff.mp e)
    have hc : ⌈v⌉ = ⌊v⌋ := by
      conv_lhs => rw [← hv]
      exact Int.ceil_intCast _
    rw [if_neg (show ¬ BitVec.ofBool (decide _) = 1 by rw [decide_eq_false h]; decide), hc]

/-- The simplest version's element function over the extended reals: shift, scale, clamp, round up. -/
def quantUp (x : EReal) : BitVec 32 :=
  roundUp (min (max ((x + ((4 : ℝ) : EReal)) * ((31.75 : ℝ) : EReal)) ((0 : ℝ) : EReal)) ((255 : ℝ) : EReal))

theorem quantUp_eq (x : EReal) : quantUp x = BitVec.ofNat 32 (below x) := by
  unfold quantUp
  induction x with
  | bot =>
    rw [EReal.bot_add, EReal.bot_mul_coe_of_pos (by norm_num), max_eq_right bot_le, min_eq_left (by exact_mod_cast (by norm_num : (0 : ℝ) ≤ 255)),
      roundUp_coe (le_refl _) (by norm_num), below_bot, Int.ceil_zero]
    rfl
  | top =>
    rw [EReal.top_add_coe, EReal.top_mul_coe_of_pos (by norm_num), max_eq_left le_top, min_eq_right le_top,
      roundUp_coe (by norm_num) (le_refl _), below_top, show (255 : ℝ) = ((255 : ℤ) : ℝ) by norm_num, Int.ceil_intCast]
    rfl
  | coe r =>
    rw [← EReal.coe_add, ← EReal.coe_mul, ← coe_max', ← coe_min']
    rw [show min (max ((r + 4) * 31.75) 0) 255 = clamp ((r + 4) * 31.75) from rfl, roundUp_coe (clamp_nonneg _) (clamp_le _), ceil_eq, ofInt_natCast]

end Cert.Proof.Edges

end
-- ==== Proof.Value.lean ====
/-
  The claims' values: the arrays the precondition and the mask describe, what the references compute of them, and the
  kernel's element function over the extended reals.
-/
module

public import proofs.«01_k».proof.Defs
public import proofs.«01_k».proof.Proof.Edges
public import proofs.«01_k».proof.Proof.Gen.ReferenceIdeal
public import proofs.«01_k».proof.Proof.Gen.ReferenceIdeal.Run
public import proofs.«01_k».proof.Proof.Gen.ReferenceRightIdeal
public import proofs.«01_k».proof.Proof.Gen.ReferenceRightIdeal.Run
public import Idealize.ShloMosaic.Lib.Routing.Ops
public import Idealize.ShloMosaic.Lib.ReduceAll

@[expose] public section

noncomputable section

namespace Cert.Proof.Value

open Idealize.ShloMosaic Idealize.ShloMosaic.ValueIdx Idealize.ShloMosaic.Routing
open Cert.Proof.Edges

/-! ## The side conditions of the precondition and of the mask -/

instance preFacts : Cert.Pre_bins_uniform.Facts where
  bcast_S_S255 := by decide

instance onFacts : Cert.On_off_boundary.Facts where
  bcast_S33554432_S33554432x1_0 := by decide
  bcast_S255_S1x255_1 := by decide
  bcast_S33554432x1_S33554432x255_0_1 := by decide
  bcast_S1x255_S33554432x255_0_1 := by decide
  reducesTo_S33554432x255_S33554432_d1 := by decide
  h_S_ := by decide

abbrev O : Type := FVec Ideal ⟨1, ![33554432]⟩ .f32
abbrev B : Type := FVec Ideal ⟨1, ![255]⟩ .f32

theorem ofBool_one (p : Bool) : BitVec.ofBool p = 1#1 ↔ p = true := by cases p <;> decide

/-- The precondition says that bin `q` is edge `q`. -/
theorem bins_of_pre (o : O) (b : B) (h : Cert.Pre_bins_uniform.fn (F := Ideal) o b = fun _ => 1#1) (q : Fin 255) :
    b (ix1 q) = ((edge q.val : ℝ) : EReal) := by
  have e := congrFun h (ix1 q)
  have e' : Ideal.cmp .oeq (b (ix1 q))
      (Ideal.div (((((BitVec.ofNat 32 q.val).toInt : ℝ) : EReal) - Ideal.ofBits .f32 0x42FE0000#32) * Ideal.ofBits .f32 0x40800000#32)
        (Ideal.ofBits .f32 0x42FE0000#32)) = 1#1 := e
  rw [c_mid, c_four, Ideal.div_coe (by norm_num)] at e'
  have hq : (BitVec.ofNat 32 q.val).toInt = (q.val : ℤ) := by
    have := q.isLt
    rw [BitVec.toInt_eq_toNat_of_lt (by rw [BitVec.toNat_ofNat]; omega), BitVec.toNat_ofNat]; omega
  rw [hq] at e'
  have e2 : b (ix1 q) = _ := of_decide_eq_true ((ofBool_one _).mp e')
  rw [e2, ← EReal.coe_sub, ← EReal.coe_mul, ← EReal.coe_mul]
  refine congrArg _ ?_
  unfold edge
  push_cast
  ring

/-! ## Broadcasts -/

/-- A vector broadcast along the rows of a matrix. -/
theorem cols_apply {α : Type} (h1 : (⟨1, ![33554432]⟩ : Shape).BroadcastsInDim ⟨2, ![33554432, 1]⟩ ![0])
    (h2 : (⟨2, ![33554432, 1]⟩ : Shape).BroadcastsInDim ⟨2, ![33554432, 255]⟩ ![0, 1])
    (o : (⟨1, ![33554432]⟩ : Shape).Idx → α) (i : Fin 33554432) (q : Fin 255) :
    broadcastInDim ⟨2, ![33554432, 255]⟩ ![0, 1] h2 (broadcastInDim ⟨2, ![33554432, 1]⟩ ![0] h1 o) (ix2 i q) = o (ix1 i) := by
  refine (broadcastInDim_apply _ h2 _ (ix2 i q) (ix2 i (0 : Fin 1)) fun a => ?_).trans
    (broadcastInDim_apply _ h1 o (ix2 i (0 : Fin 1)) (ix1 i) fun a => ?_)
  · match a with
    | ⟨0, _⟩ => exact (if_neg (show ¬(33554432 : ℕ) = 1 by decide)).symm
    | ⟨1, _⟩ => exact (if_pos (show (1 : ℕ) = 1 from rfl)).symm
  · match a with
    | ⟨0, _⟩ => exact (if_neg (show ¬(33554432 : ℕ) = 1 by decide)).symm

/-- A vector broadcast down the columns of a matrix. -/
theorem rows_apply {α : Type} (h1 : (⟨1, ![255]⟩ : Shape).BroadcastsInDim ⟨2, ![1, 255]⟩ ![1])
    (h2 : (⟨2, ![1, 255]⟩ : Shape).BroadcastsInDim ⟨2, ![33554432, 255]⟩ ![0, 1])
    (b : (⟨1, ![255]⟩ : Shape).Idx → α) (i : Fin 33554432) (q : Fin 255) :
    broadcastInDim ⟨2, ![33554432, 255]⟩ ![0, 1] h2 (broadcastInDim ⟨2, ![1, 255]⟩ ![1] h1 b) (ix2 i q) = b (ix1 q) := by
  refine (broadcastInDim_apply _ h2 _ (ix2 i q) (ix2 (0 : Fin 1) q) fun a => ?_).trans
    (broadcastInDim_apply _ h1 b (ix2 (0 : Fin 1) q) (ix1 q) fun a => ?_)
  · match a with
    | ⟨0, _⟩ => exact (if_pos (show (1 : ℕ) = 1 from rfl)).symm
    | ⟨1, _⟩ => exact (if_neg (show ¬(255 : ℕ) = 1 by decide)).symm
  · match a with
    | ⟨0, _⟩ => exact (if_neg (show ¬(255 : ℕ) = 1 by decide)).symm

/-- The mask says that no bin is the element. -/
theorem ne_of_on (o : O) (b : B) (i : Fin 33554432) (h : Cert.On_off_boundary.fn (F := Ideal) o b (ix1 i) = 1#1) (q : Fin 255) :
    o (ix1 i) ≠ b (ix1 q) := by
  unfold Cert.On_off_boundary.fn at h
  have e := Host.reduce_andi_eq_one _ _ _ _ _ h (ix2 i q) (funext fun a => by
    match a with
    | ⟨0, _⟩ => rfl)
  have e' : Ideal.cmp .une (o (ix1 i)) (b (ix1 q)) = 1#1 := by
    rw [← e, ← cols_apply Cert.On_off_boundary.Facts.bcast_S33554432_S33554432x1_0 Cert.On_off_boundary.Facts.bcast_S33554432x1_S33554432x255_0_1 o i q,
      ← rows_apply Cert.On_off_boundary.Facts.bcast_S255_S1x255_1 Cert.On_off_boundary.Facts.bcast_S1x255_S33554432x255_0_1 b i q]
    rfl
  exact of_decide_eq_true ((ofBool_one _).mp e')

/-! ## What the references compute -/

/-- The bins below `o`'s elements, compared and summed as the reference prints it. -/
def leftOf (o : O) (b : B) : IVec ⟨1, ![33554432]⟩ 32 :=
  Host.reduce IntOp.addi (extui 32 (cmpf .olt (broadcastInDim Cert.ReferenceIdeal.S33554432x255 ![0, 1] Cert.ReferenceIdeal.Gen.bcast_S1x255_S33554432x255_0_1
        (broadcastInDim Cert.ReferenceIdeal.S1x255 ![1] Cert.ReferenceIdeal.Gen.bcast_S255_S1x255_1 b))
      (broadcastInDim Cert.ReferenceIdeal.S33554432x255 ![0, 1] Cert.ReferenceIdeal.Gen.bcast_S33554432x1_S33554432x255_0_1
        (broadcastInDim Cert.ReferenceIdeal.S33554432x1 ![0] Cert.ReferenceIdeal.Gen.bcast_S33554432_S33554432x1_0 o))) Cert.ReferenceIdeal.Gen.natLt_1_32)
    (constantI Cert.ReferenceIdeal.S_ 32 0#32) Cert.ReferenceIdeal.Gen.reducesTo_S33554432x255_S33554432_d1 Cert.ReferenceIdeal.Gen.h_S_

/-- The bins at or below `o`'s elements, likewise. -/
def rightOf (o : O) (b : B) : IVec ⟨1, ![33554432]⟩ 32 :=
  Host.reduce IntOp.addi (extui 32 (cmpf .ole (broadcastInDim Cert.ReferenceRightIdeal.S33554432x255 ![0, 1] Cert.ReferenceRightIdeal.Gen.bcast_S1x255_S33554432x255_0_1
        (broadcastInDim Cert.ReferenceRightIdeal.S1x255 ![1] Cert.ReferenceRightIdeal.Gen.bcast_S255_S1x255_1 b))
      (broadcastInDim Cert.ReferenceRightIdeal.S33554432x255 ![0, 1] Cert.ReferenceRightIdeal.Gen.bcast_S33554432x1_S33554432x255_0_1
        (broadcastInDim Cert.ReferenceRightIdeal.S33554432x1 ![0] Cert.ReferenceRightIdeal.Gen.bcast_S33554432_S33554432x1_0 o))) Cert.ReferenceRightIdeal.Gen.natLt_1_32)
    (constantI Cert.ReferenceRightIdeal.S_ 32 0#32) Cert.ReferenceRightIdeal.Gen.reducesTo_S33554432x255_S33554432_d1 Cert.ReferenceRightIdeal.Gen.h_S_

theorem leftOf_eq (o : O) (b : B) (hb : ∀ q : Fin 255, b (ix1 q) = ((edge q.val : ℝ) : EReal)) (i : Fin 33554432) :
    leftOf o b (ix1 i) = BitVec.ofNat 32 (below (o (ix1 i))) := by
  refine reduce_count (by decide) _ _ _ _ i (fun q => ((edge q : ℝ) : EReal) < o (ix1 i)) fun q => ?_
  rw [← hb q]
  have e : cmpf .olt (broadcastInDim Cert.ReferenceIdeal.S33554432x255 ![0, 1] Cert.ReferenceIdeal.Gen.bcast_S1x255_S33554432x255_0_1
        (broadcastInDim Cert.ReferenceIdeal.S1x255 ![1] Cert.ReferenceIdeal.Gen.bcast_S255_S1x255_1 b))
      (broadcastInDim Cert.ReferenceIdeal.S33554432x255 ![0, 1] Cert.ReferenceIdeal.Gen.bcast_S33554432x1_S33554432x255_0_1
        (broadcastInDim Cert.ReferenceIdeal.S33554432x1 ![0] Cert.ReferenceIdeal.Gen.bcast_S33554432_S33554432x1_0 o)) (ix2 i q)
      = Ideal.cmp .olt (b (ix1 q)) (o (ix1 i)) :=
    congrArg₂ (Ideal.cmp .olt) (rows_apply _ _ b i q) (cols_apply _ _ o i q)
  refine (iff_of_eq (congrArg (· = 1#1) e)).trans ((ofBool_one _).trans decide_eq_true_iff)

theorem rightOf_eq (o : O) (b : B) (hb : ∀ q : Fin 255, b (ix1 q) = ((edge q.val : ℝ) : EReal)) (i : Fin 33554432) :
    rightOf o b (ix1 i) = BitVec.ofNat 32 (atMost (o (ix1 i))) := by
  refine reduce_count (by decide) _ _ _ _ i (fun q => ((edge q : ℝ) : EReal) ≤ o (ix1 i)) fun q => ?_
  rw [← hb q]
  have e : cmpf .ole (broadcastInDim Cert.ReferenceRightIdeal.S33554432x255 ![0, 1] Cert.ReferenceRightIdeal.Gen.bcast_S1x255_S33554432x255_0_1
        (broadcastInDim Cert.ReferenceRightIdeal.S1x255 ![1] Cert.ReferenceRightIdeal.Gen.bcast_S255_S1x255_1 b))
      (broadcastInDim Cert.ReferenceRightIdeal.S33554432x255 ![0, 1] Cert.ReferenceRightIdeal.Gen.bcast_S33554432x1_S33554432x255_0_1
        (broadcastInDim Cert.ReferenceRightIdeal.S33554432x1 ![0] Cert.ReferenceRightIdeal.Gen.bcast_S33554432_S33554432x1_0 o)) (ix2 i q)
      = Ideal.cmp .ole (b (ix1 q)) (o (ix1 i)) :=
    congrArg₂ (Ideal.cmp .ole) (rows_apply _ _ b i q) (cols_apply _ _ o i q)
  refine (iff_of_eq (congrArg (· = 1#1) e)).trans ((ofBool_one _).trans decide_eq_true_iff)

/-- Off the bins the two counts agree. -/
theorem off_eq (o : O) (b : B) (hb : ∀ q : Fin 255, b (ix1 q) = ((edge q.val : ℝ) : EReal)) (i : Fin 33554432)
    (h : Cert.On_off_boundary.fn (F := Ideal) o b (ix1 i) = 1#1) : atMost (o (ix1 i)) = below (o (ix1 i)) :=
  atMost_eq_below fun q hq e => ne_of_on o b i h ⟨q, hq⟩ (by rw [hb ⟨q, hq⟩, e])

/-- An index of the result is the index of its coordinate. -/
theorem idx_eq (i : (⟨1, ![33554432]⟩ : Shape).Idx) : i = ix1 (i 0) := funext fun a => by
  match a with
  | ⟨0, _⟩ => rfl

end Cert.Proof.Value

end
-- ==== Proof.Claims.lean ====
/-
  The ring of copies: its frames and its two value claims.
-/
module

public import proofs.«01_k».proof.Proof.Launch
public import proofs.«01_k».proof.Proof.Value
public import proofs.«01_k».proof.Proof.Gen.Kernel
public import Idealize.ShloMosaic.Adequacy
public import Idealize.ShloMosaic.Init

@[expose] public section

noncomputable section

namespace Cert.Proof.Quant

open Idealize.ShloMosaic Idealize.ShloMosaic.ValueIdx Idealize.SL.Sem
open Cert.Proof.Edges Cert.Proof.Value

attribute [local instance] Cert.Kernel.Gen.facts Cert.KernelIdeal.Gen.facts Cert.ReferenceIdeal.Gen.facts Cert.ReferenceRightIdeal.Gen.facts

theorem frame_kernel : Cert.quiescent_Kernel := fun m ρ _ =>
  (θ_run Cert.KernelIdeal.defs _ _).mono (fun _ h => ⟨fun c => ⟨(h.1 c).1, (h.1 c).2.1⟩, h.2⟩) (run_main (F := Bits) m ρ)

theorem frame_kernelIdeal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- Over the extended reals the kernel's element function is `quant`. -/
theorem bk_ideal (x : Ideal .f32) : bk (F := Ideal) x = quant x := by
  unfold bk Cert.KernelIdeal.Gen.k0_pay1
  rw [shapeCast_self]
  show Ideal.fptosi 32 (min (max (x * Ideal.ofBits .f32 0x41FE0000#32 + Ideal.ofBits .f32 0x43000000#32) (Ideal.ofBits .f32 0x00000000#32)) (Ideal.ofBits .f32 0x437F0000#32)) = _
  rw [c_scale, c_shift, c_zero, c_top]
  rfl

theorem out_eq (m : (ℓ : Loc Cert.KernelIdeal.nD Cert.KernelIdeal.τ Cert.KernelIdeal.sig) → Buf (Elt Ideal) ℓ) (d : Dev Cert.KernelIdeal.nD)
    (i : (⟨1, ![33554432]⟩ : Shape).Idx) : OUT m d i = BitVec.ofNat 32 (atMost (m (oLoc d) i)) :=
  (bk_ideal _).trans (quant_eq _)

/-- At uniform bins the kernel leaves the count of the bins at or below each element: the whole result. -/
theorem value_right : Cert.algebraic_KernelIdeal_ReferenceRightIdeal_pre_bins_uniform := by
  intro m g m' g' hpre hag
  refine ⟨fun c => OUT m c, (θ_run Cert.KernelIdeal.defs _ _).mono (fun _ h c => ⟨(h.1 c).2.2, (h.1 c).1, (h.1 c).2.1⟩) (run_main (F := Ideal) m g),
    (θ_run Cert.ReferenceRightIdeal.defs _ _).mono (fun r h c => ⟨(h c).1.trans ?_, (h c).2⟩) (Cert.ReferenceRightIdeal.Value.run (F := Ideal) m' g')⟩
  show rightOf (m' ((c.tc : Thread Cert.ReferenceRightIdeal.nD Cert.ReferenceRightIdeal.τ).loc Cert.ReferenceRightIdeal.main_arg0))
    (m' ((c.tc : Thread Cert.ReferenceRightIdeal.nD Cert.ReferenceRightIdeal.τ).loc Cert.ReferenceRightIdeal.main_arg1)) = OUT m c
  rw [(hag c).1, (hag c).2]
  refine funext fun i => ?_
  rw [idx_eq i]
  exact (rightOf_eq _ _ (bins_of_pre _ _ (hpre c)) (i 0)).trans (out_eq m c (ix1 (i 0))).symm

/-- At uniform bins, where an element is no bin, it is the reference's count. -/
theorem value_left : Cert.algebraic_KernelIdeal_ReferenceIdeal_on_off_boundary_pre_bins_uniform := by
  intro m g m' g' hpre hag
  refine ⟨fun c => OUT m c, (θ_run Cert.KernelIdeal.defs _ _).mono (fun _ h c => ⟨fun i _ => congrFun (h.1 c).2.2 i, (h.1 c).1, (h.1 c).2.1⟩) (run_main (F := Ideal) m g),
    (θ_run Cert.ReferenceIdeal.defs _ _).mono (fun r h c => ⟨fun i hi => (congrFun (h c).1 i).trans ?_, (h c).2⟩) (Cert.ReferenceIdeal.Value.run (F := Ideal) m' g')⟩
  show leftOf (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1)) i = OUT m c i
  rw [(hag c).1, (hag c).2]
  rw [idx_eq i] at hi ⊢
  have hb := bins_of_pre _ _ (hpre c)
  exact (leftOf_eq _ _ hb (i 0)).trans ((congrArg (BitVec.ofNat 32) (off_eq _ _ hb (i 0) hi)).symm.trans (out_eq m c (ix1 (i 0))).symm)

theorem frame_left : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_right : Cert.quiescent_ReferenceRightIdeal := fun m ρ _ =>
  (θ_run Cert.ReferenceRightIdeal.defs _ _).mono (fun r h => ⟨fun c => (h c).2, Idealize.ShloMosaic.sem_eq_zero_of_no_sems (by decide) r.2⟩)
    (Cert.ReferenceRightIdeal.Value.run (F := Ideal) m ρ)

end Cert.Proof.Quant

end
-- ==== Proof.SyncBase.lean ====
/-
  The simplest version's run: what it is stated over. As in `Base`, a tile's part of the arrays is 64 chunks of 16384
  elements in a row; here tile `s` of SparseCore `c` has part `2 s + c`.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Value
public import Idealize.ShloMosaic.Lib.Pipeline.Kit
public import Idealize.ShloMosaic.Lib.Transfers
public import Idealize.ShloMosaic.Lib.Tactic
public import proofs.«01_k».proof.Proof.Gen.KernelSyncIdeal
public import proofs.«01_k».proof.Proof.Gen.KernelSyncIdeal.Skeleton

@[expose] public section

noncomputable section

namespace Cert.Proof.Sync

open Cert.KernelSyncIdeal Cert.KernelSyncIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EC : UEmb Counters (MT nD τ sig (HIx 1) (Elt F) ℕ UU ℕ) := countersEmb

/-- `o`, the bin edges and the result, as locations of device `d`. -/
abbrev oLoc (d : Dev nD) : Loc nD τ sig := (SparseCore.T d).loc main_arg0
abbrev bLoc (d : Dev nD) : Loc nD τ sig := (SparseCore.T d).loc main_arg1
abbrev rLoc (d : Dev nD) : Loc nD τ sig := (SparseCore.T d).loc main_v0

abbrev oV : Memref sig .scVector .hbm S33554432 .f32 := Memref.whole main_arg0_scv
abbrev bV : Memref sig .scVector .hbm S255 .f32 := Memref.whole main_arg1_scv
abbrev rV : Memref sig .scVector .hbm S33554432 .i32 := Memref.whole main_v0_scv

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-! ## Chunks -/

/-- The first element of tile `L`'s part. -/
def base (L : grid0.Coords) : ℕ := 2097152 * (L 1).val + 1048576 * (L 0).val

theorem base_le (L : grid0.Coords) : base L + 1048576 ≤ 33554432 := by
  have h0 : (L 0).val < 2 := (L 0).isLt
  have h1 : (L 1).val < 16 := (L 1).isLt
  unfold base; omega

/-- Where chunk `g` of tile `L` starts. -/
def coff (L : grid0.Coords) (g : ℕ) : Fin 1 → ℕ := ![base L + 16384 * g]

/-- The elements of tile `L`'s chunks from `a` up to `b`. -/
def span (L : grid0.Coords) (a b : ℕ) : Finset S33554432.Idx :=
  Finset.univ.filter fun i => base L + 16384 * a ≤ (i 0).val ∧ (i 0).val < base L + 16384 * b

theorem mem_span {L : grid0.Coords} {a b : ℕ} {i : S33554432.Idx} :
    i ∈ span L a b ↔ base L + 16384 * a ≤ (i 0).val ∧ (i 0).val < base L + 16384 * b := by
  unfold span; rw [Finset.mem_filter]; exact ⟨fun h => h.2, fun h => ⟨Finset.mem_univ _, h⟩⟩

theorem span_union (L : grid0.Coords) {a b c : ℕ} (h : a ≤ b) (h' : b ≤ c) : span L a c = span L a b ∪ span L b c := by
  ext i; rw [Finset.mem_union, mem_span, mem_span, mem_span]; omega

theorem span_disjoint (L : grid0.Coords) (a b c : ℕ) : Disjoint (span L a b) (span L b c) := by
  refine Finset.disjoint_left.mpr fun i h h' => ?_
  rw [mem_span] at h h'; omega

theorem span_self (L : grid0.Coords) (a : ℕ) : span L a a = ∅ := by
  refine Finset.eq_empty_of_forall_notMem fun i h => ?_
  rw [mem_span] at h; omega

/-- Element `j` of chunk `g` of tile `L`. -/
def cidx (L : grid0.Coords) (g : ℕ) (j : S16384.Idx) : S33554432.Idx :=
  fun a => match a with | 0 => (⟨(base L + 16384 * g + (j 0).val) % 33554432, Nat.mod_lt _ (by decide)⟩ : Fin 33554432)

theorem cidx_val (L : grid0.Coords) {g : ℕ} (hg : g < 64) (j : S16384.Idx) : ((cidx L g j) 0).val = base L + 16384 * g + (j 0).val := by
  have hj : (j 0).val < 16384 := (j 0).isLt
  have hb := base_le L
  show (base L + 16384 * g + (j 0).val) % 33554432 = _
  exact Nat.mod_eq_of_lt (by omega)

/-- A piece of `o` or of the result as a copy slices it, at chunk `g`: the elements it names, -/
theorem set_chunk {e : EltTy} (A : Memref sig .scVector .hbm S33554432 e) (L : grid0.Coords) {g : ℕ} {off : Fin 1 → ℕ} (h : off = coff L g)
    (inb : ∀ a, off a + S16384.size a ≤ S33554432.size a) :
    (A.slice (Rect.unit (s := S33554432) off S16384.size inb) (fun _ => rfl)).view.set = (span L g (g + 1)).map A.view.emb := by
  subst h
  have key : (Rect.unit (s := S33554432) (coff L g) S16384.size inb).set = span L g (g + 1) := ?_
  · show (A.view.slice _).set = _
    rw [View.set_slice, key]
  ext i
  rw [Rect.mem_set_unit, mem_span]
  constructor
  · intro h
    have p : base L + 16384 * g ≤ (i 0).val := (h 0).1
    have q : (i 0).val < base L + 16384 * g + 16384 := (h 0).2
    exact ⟨p, lt_of_lt_of_eq q (by rw [Nat.mul_add, Nat.add_assoc])⟩
  · intro h a
    obtain rfl : a = 0 := Subsingleton.elim _ _
    have q : (i 0).val < base L + 16384 * g + 16384 := lt_of_lt_of_eq h.2 (by rw [Nat.mul_add, Nat.add_assoc])
    exact ⟨h.1, q⟩

/-- and which element its `j`th is. -/
theorem emb_chunk {e : EltTy} (A : Memref sig .scVector .hbm S33554432 e) (L : grid0.Coords) {g : ℕ} (hg : g < 64) {off : Fin 1 → ℕ} (h : off = coff L g)
    (inb : ∀ a, off a + S16384.size a ≤ S33554432.size a) (j : S16384.Idx) :
    (A.slice (Rect.unit (s := S33554432) off S16384.size inb) (fun _ => rfl)).view.emb j = A.view.emb (cidx L g j) := by
  subst h
  show A.view.emb ((Rect.unit (s := S33554432) (coff L g) S16384.size inb).emb j) = _
  congr 1
  funext a
  obtain rfl : a = 0 := Subsingleton.elim _ _
  apply Fin.ext
  rw [Rect.emb_apply, cidx_val L hg]
  show base L + 16384 * g + 1 * (j 0).val = _
  omega

/-! ## The offsets the program computes -/

theorem off1_coff (L : grid0.Coords) (t : Fin k0_t1_loop.trips) : k0_off1 L t = coff L t.val := by
  rw [k0_off1_eq]; rfl

theorem trips1 : k0_t1_loop.trips = 64 := by decide +kernel
theorem trips2 : k0_t2_loop.trips = 1024 := by decide +kernel

/-! ## What the inner loop computes -/

variable [FloatOps F]

/-- An index of a vector of sixteen. -/
def zix : S16.Idx := fun a => match a with | 0 => (⟨0, by decide⟩ : Fin 16)

/-- The bin the kernel puts an element in. -/
def bk (x : F .f32) : BitVec 32 := k0_pay1 (fun _ => x) zix

theorem pay1_apply (v : Vec F S16 .f32) (j : S16.Idx) : k0_pay1 v j = bk (v j) := by
  unfold bk k0_pay1
  simp only [shapeCast_self]
  rfl

variable (m : (ℓ : Loc nD τ sig) → Buf (Elt F) ℓ)

/-- The result the kernel leaves. -/
def OUT (d : Dev nD) : Buf (Elt F) (rLoc d) := fun i => bk (F := F) (m (oLoc d) i)

/-- Chunk `g` of tile `L`, as a buffer of the tile holds it, and the bins of its elements. -/
def XC (d : Dev nD) (L : grid0.Coords) (g : ℕ) : S16384.Idx → Elt F .f32 := fun j => m (oLoc d) (cidx L g j)
def YC (d : Dev nD) (L : grid0.Coords) (g : ℕ) : S16384.Idx → Elt F .i32 := fun j => bk (F := F) (m (oLoc d) (cidx L g j))

end Cert.Proof.Sync
end
-- ==== Proof.SyncSteps.lean ====
/-
  The simplest version's copies: one rule for each of a fetch issued, a fetch waited for, a write-out issued and a
  write-out waited for.
-/
module

public import proofs.«01_k».proof.Proof.SyncBase

@[expose] public section

noncomputable section

namespace Cert.Proof.Sync

open Cert.KernelSyncIdeal Cert.KernelSyncIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Rounds

variable {F : FTy → Type} [FloatOps F]

local notation "𝕄" => MT nD τ sig (HIx 1) (Elt F) ℕ UU ℕ

variable (m : (ℓ : Loc nD τ sig) → Buf (Elt F) ℓ) (d : Dev nD) (L : grid0.Coords)

/-! ## What is held between steps -/

/-- A buffer of the tile, reading `X`. -/
def Holds {e : EltTy} (xM : Memref sig .scVector .vmem S16384 e) (X : S16384.Idx → Elt F e) : sProp 𝕄 :=
  iprop(∃ f : Buf (Elt F) (xM.view.loc (thr d L)), ⌜xM.view.read (Elt F) f = X⌝ ∗ xM.view.loc (thr d L) ↦[xM.view.set]{fullShare} f)

/-- A buffer of the tile, at some contents. -/
def Some {e : EltTy} (xM : Memref sig .scVector .vmem S16384 e) : sProp 𝕄 := iprop(∃ X, Holds (F := F) d L xM X)

/-- The tile's chunks of `o` from `a` up to `b`, -/
def inPt (a b : ℕ) : sProp 𝕄 := oLoc d ↦[span L a b]{fullShare} m (oLoc d)
/-- and of the result, at contents `f`. -/
def outPt (f : Buf (Elt F) (rLoc d)) (a b : ℕ) : sProp 𝕄 := rLoc d ↦[span L a b]{fullShare} f

/-- A fetch of chunk `g` into `xM`, under way on `sem`. -/
def FlI (xM : Memref sig .scVector .vmem S16384 .f32) (sem : DmaSem sig) (g : ℕ) : sProp 𝕄 :=
  Transfers.Flight EC (thr d L) (.dma sem) none xM.view.dmaCredit iprop(Holds d L xM (XC m d L g) ∗ inPt m d L g (g + 1))

/-- The credit of a write-out. -/
def NO : ℕ := (rV.view.ref).dmaCredit S16384 .i32

theorem NO_pos : 0 < NO := sig.dmaCredit_pos _ _ _ _ _ (by decide)

/-- A write-out of chunk `g` from `yM`, under way on `sem`. -/
def FlO (yM : Memref sig .scVector .vmem S16384 .i32) (sem : DmaSem sig) (g : ℕ) : sProp 𝕄 :=
  Transfers.Flight EC (thr d L) (.dma sem) none NO iprop(outPt d L (OUT m d) g (g + 1) ∗ Some (F := F) d L yM)

/-- What the tile owes, `W` grown by waits of its own. -/
def OW (O : CellTallies nD τ sig (HIx 1)) (W : Waits sig (HIx 1)) : sProp 𝕄 :=
  iprop(∃ W', ⌜∀ p ∈ W', p ∈ W ∨ p.2 = none⌝ ∗ owes (thr d L) O W')

theorem pts_union {ℓ : Loc nD τ sig} {I J : Finset (Idx ℓ)} (h : Disjoint I J) (f : Buf (Elt F) ℓ) :
    (ℓ ↦[I ∪ J]{fullShare} f : sProp 𝕄) = iprop((ℓ ↦[I]{fullShare} f) ∗ ℓ ↦[J]{fullShare} f) := by
  have hu : (ℓ ↦[I ∪ J]{fullShare} f : sProp 𝕄) ⊣⊢ iprop((ℓ ↦[I]{fullShare} f) ∗ ℓ ↦[J]{fullShare} f) := pointsTo_union h
  exact BI.equiv_iff.mp ⟨hu.1, hu.2⟩

theorem inPt_split {a b c : ℕ} (h : a ≤ b) (h' : b ≤ c) : inPt m d L a c = iprop(inPt m d L a b ∗ inPt m d L b c) := by
  unfold inPt
  rw [span_union L h h', pts_union (span_disjoint L a b c)]
theorem outPt_split (f : Buf (Elt F) (rLoc d)) {a b c : ℕ} (h : a ≤ b) (h' : b ≤ c) :
    outPt d L f a c = iprop(outPt d L f a b ∗ outPt d L f b c) := by
  unfold outPt
  rw [span_union L h h', pts_union (span_disjoint L a b c)]

abbrev WP {α : Type} (p : Prog (TpuEff nD τ sig (Elt F) Λ₀ (thr d L).2) α) (Q : α → sProp 𝕄) : sProp 𝕄 :=
  wp frame (wpE (defs₀ (F := F)) 𝒱₀ (thr d L) none) Set.univ p Q

variable {α : Type} {Q : α → sProp (MT nD τ sig (HIx 1) (Elt F) ℕ UU ℕ)}

/-! ## Fetches -/

theorem set_in {g : ℕ} {off : Fin 1 → ℕ} (h : off = coff L g) (inb : ∀ a, off a + S16384.size a ≤ S33554432.size a) :
    (oV.slice (Rect.unit (s := S33554432) off S16384.size inb) (fun _ => rfl)).view.set = span L g (g + 1) :=
  (set_chunk oV L h inb).trans Finset.map_refl
theorem set_out {g : ℕ} {off : Fin 1 → ℕ} (h : off = coff L g) (inb : ∀ a, off a + S16384.size a ≤ S33554432.size a) :
    (rV.slice (Rect.unit (s := S33554432) off S16384.size inb) (fun _ => rfl)).view.set = span L g (g + 1) :=
  (set_chunk rV L h inb).trans Finset.map_refl

theorem wp_issueIn (xM : Memref sig .scVector .vmem S16384 .f32) (sem : DmaSem sig) {g : ℕ} (hg : g < 64) {off : Fin 1 → ℕ} (hoff : off = coff L g)
    {inb : ∀ a, off a + S16384.size a ≤ S33554432.size a} {hsrc} {hdst} {hsem}
    {k : PUnit → Prog (TpuEff nD τ sig (Elt F) Λ₀ (thr d L).2) α} :
    iprop(Some (F := F) d L xM ∗ semVal (thr d L, .dma sem) 0 ∗ inPt m d L g 64)
      ⊢ iprop((iprop(FlI m d L xM sem g ∗ inPt m d L (g + 1) 64) -∗ WP d L (k ⟨⟩) Q)
          -∗ WP d L (.op (.enqueueDma (oV.slice (Rect.unit (s := S33554432) off S16384.size inb) (fun _ => rfl)) (.here xM) (.dma sem) hsrc hdst hsem) k) Q) := by
  rw [inPt_split m d L (Nat.le_succ g) (by omega : g + 1 ≤ 64)]
  unfold Some Holds
  iintro ⟨⟨%X, %f, %hf, Hx⟩, Hs, Hc, Ht⟩ Hk
  unfold inPt
  rw [← set_in L hoff inb]
  iapply (Transfers.wp_dmaLocal EC 𝒱₀ (thr d L) none (q := fullShare) (fs := m (oLoc d)) (fd := f) none xM.view.dmaCredit rfl
    (View.dmaCredit_pos _ (by decide)) (Finset.Subset.refl _)) $$ [Hx Hs Hc]
  · isplitl [Hc]; · iexact Hc
    isplitl [Hx]; · iexact Hx
    iexact Hs
  iintro Hfl
  iapply Hk
  isplitl [Hfl]
  · unfold FlI
    iapply (Transfers.Flight_mono EC (thr d L) ?_) $$ Hfl
    unfold Holds inPt
    iintro ⟨Hx, Hc⟩
    isplitl [Hx]
    · iexists _; isplitr
      rotate_left
      · iexact Hx
      · ipureintro
        rw [View.read_write_univ]
        funext j
        show View.read _ _ _ j = _
        rw [View.read_apply, emb_chunk oV L hg hoff inb j]
        rfl
    · rw [← set_in L hoff inb]; iexact Hc
  · iexact Ht

theorem wp_waitIn (xM : Memref sig .scVector .vmem S16384 .f32) (sem : DmaSem sig) (g : ℕ) (O : CellTallies nD τ sig (HIx 1)) (W : Waits sig (HIx 1))
    {s' : Shape} {e' : EltTy} {sp' : Space} {srcw : Memref sig .scVector sp' s' e'} {hsrc : srcw.view.WordExact} {hdst : xM.view.WordExact}
    {k : PUnit → Prog (TpuEff nD τ sig (Elt F) Λ₀ (thr d L).2) α} :
    iprop(Transfers.MayWaits (thr d L) none O ∗ FlI m d L xM sem g ∗ inPt m d L 0 g ∗ OW d L O W)
      ⊢ iprop((iprop(Holds d L xM (XC m d L g) ∗ semVal (thr d L, .dma sem) 0 ∗ inPt m d L 0 (g + 1) ∗ OW d L O W) -∗ WP d L (k ⟨⟩) Q)
          -∗ WP d L (.op (.waitDma2 sem srcw xM hsrc hdst) k) Q) := by
  rw [inPt_split m d L (Nat.zero_le g) (Nat.le_succ g)]
  unfold OW FlI
  iintro ⟨#Hmw, Hfl, Hi, ⟨%W', %hW', HO⟩⟩ Hk
  iapply (Transfers.wp_waitLocalO EC 𝒱₀ (thr d L) none none rfl (W := W')) $$ [Hfl HO]
  · isplitl [Hfl]; · iexact Hfl
    isplitl [HO]; · iexact HO
    iapply (Transfers.MayWaits.elim (SemLoc.dma sem)); iexact Hmw
  iintro ⟨⟨Hx, Hc⟩, Hs, HO⟩
  iapply Hk
  isplitl [Hx]; · iexact Hx
  isplitl [Hs]; · iexact Hs
  isplitl [Hi Hc]
  · isplitl [Hi]; · iexact Hi
    iexact Hc
  iexists _; isplitr
  rotate_left
  · iexact HO
  · ipureintro; intro p hp
    rcases Finset.mem_insert.mp hp with rfl | hp
    · exact .inr rfl
    · exact hW' p hp

/-! ## Write-outs -/

theorem wp_issueOut (yM : Memref sig .scVector .vmem S16384 .i32) (sem : DmaSem sig) {g : ℕ} (hg : g < 64) {off : Fin 1 → ℕ} (hoff : off = coff L g)
    {inb : ∀ a, off a + S16384.size a ≤ S33554432.size a} {hsrc} {hdst} {hsem}
    {k : PUnit → Prog (TpuEff nD τ sig (Elt F) Λ₀ (thr d L).2) α} :
    iprop(Holds d L yM (YC m d L g) ∗ semVal (thr d L, .dma sem) 0 ∗ outPt d L (m (rLoc d)) g 64)
      ⊢ iprop((iprop(FlO m d L yM sem g ∗ outPt d L (m (rLoc d)) (g + 1) 64) -∗ WP d L (k ⟨⟩) Q)
          -∗ WP d L (.op (.enqueueDma yM (.here (rV.slice (Rect.unit (s := S33554432) off S16384.size inb) (fun _ => rfl))) (.dma sem) hsrc hdst hsem) k) Q) := by
  rw [outPt_split d L _ (Nat.le_succ g) (by omega : g + 1 ≤ 64)]
  unfold Holds
  iintro ⟨⟨%f, %hf, Hy⟩, Hs, Hc, Ht⟩ Hk
  unfold outPt
  rw [← set_out L hoff inb]
  iapply (Transfers.wp_dmaLocal EC 𝒱₀ (thr d L) none (q := fullShare) (fs := f) (fd := m (rLoc d)) none NO rfl
    NO_pos (Finset.Subset.refl _)) $$ [Hy Hs Hc]
  · isplitl [Hy]; · iexact Hy
    isplitl [Hc]; · iexact Hc
    iexact Hs
  iintro Hfl
  iapply Hk
  isplitl [Hfl]
  · unfold FlO
    iapply (Transfers.Flight_mono EC (thr d L) ?_) $$ Hfl
    unfold Some Holds outPt
    iintro ⟨Hc, Hy⟩
    isplitl [Hc]
    · rw [← set_out L hoff inb]
      iapply (Entails.of_eq (pointsTo_congr ?_)) $$ Hc
      intro i hi
      obtain ⟨j, rfl⟩ := View.exists_emb_of_mem_set _ hi
      rw [View.write_emb_of_mem _ _ (Finset.mem_univ j)]
      show cast _ (yM.view.read (Elt F) f j) = _
      rw [hf, emb_chunk rV L hg hoff inb j]
      rfl
    · iexists _; iexists f; isplitr
      · ipureintro; rfl
      · iexact Hy
  · iexact Ht

theorem wp_waitOut (yM : Memref sig .scVector .vmem S16384 .i32) (sem : DmaSem sig) (g : ℕ) (O : CellTallies nD τ sig (HIx 1)) (W : Waits sig (HIx 1))
    {off : Fin 1 → ℕ} {inb : ∀ a, off a + S16384.size a ≤ S33554432.size a} {hsrc} {hdst}
    {k : PUnit → Prog (TpuEff nD τ sig (Elt F) Λ₀ (thr d L).2) α} :
    iprop(Transfers.MayWaits (thr d L) none O ∗ FlO m d L yM sem g ∗ outPt d L (OUT m d) 0 g ∗ OW d L O W)
      ⊢ iprop((iprop(Some (F := F) d L yM ∗ semVal (thr d L, .dma sem) 0 ∗ outPt d L (OUT m d) 0 (g + 1) ∗ OW d L O W) -∗ WP d L (k ⟨⟩) Q)
          -∗ WP d L (.op (.waitDma2 sem yM (rV.slice (Rect.unit (s := S33554432) off S16384.size inb) (fun _ => rfl)) hsrc hdst) k) Q) := by
  rw [outPt_split d L _ (Nat.zero_le g) (Nat.le_succ g)]
  unfold OW FlO
  iintro ⟨#Hmw, Hfl, Hi, ⟨%W', %hW', HO⟩⟩ Hk
  iapply (Transfers.wp_waitLocalO EC 𝒱₀ (thr d L) none none (N := NO) rfl (W := W')) $$ [Hfl HO]
  · isplitl [Hfl]; · iexact Hfl
    isplitl [HO]; · iexact HO
    iapply (Transfers.MayWaits.elim (SemLoc.dma sem)); iexact Hmw
  iintro ⟨⟨Hc, Hy⟩, Hs, HO⟩
  iapply Hk
  isplitl [Hy]; · iexact Hy
  isplitl [Hs]; · iexact Hs
  isplitl [Hi Hc]
  · isplitl [Hi]; · iexact Hi
    iexact Hc
  iexists _; isplitr
  rotate_left
  · iexact HO
  · ipureintro; intro p hp
    rcases Finset.mem_insert.mp hp with rfl | hp
    · exact .inr rfl
    · exact hW' p hp

end Cert.Proof.Sync
end
-- ==== Proof.SyncCompute.lean ====
/-
  The simplest version's inner loop: from a buffer reading `X`, 1024 trips of sixteen elements each leave the other
  buffer reading the bins of `X`.
-/
module

public import proofs.«01_k».proof.Proof.SyncSteps

@[expose] public section

noncomputable section

namespace Cert.Proof.Sync

open Cert.KernelSyncIdeal Cert.KernelSyncIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Rounds

variable {F : FTy → Type} [FloatOps F]

local notation "𝕄" => MT nD τ sig (HIx 1) (Elt F) ℕ UU ℕ

variable (m : (ℓ : Loc nD τ sig) → Buf (Elt F) ℓ) (d : Dev nD) (L : grid0.Coords)

/-- The sixteen elements of trip `t`. -/
abbrev lane (t : Fin k0_t2_loop.trips) : Rect S16384 := Rect.unit (s := S16384) (k0_off2 t) S16.size (k0_off2_inb t)

def cbody (xM : Memref sig .scVector .vmem S16384 .f32) (yM : Memref sig .scVector .vmem S16384 .i32) :
    Fin k0_t2_loop.trips → Unit → Prog (TpuEff nD τ sig (Elt F) Λ₀ (.scVector (cV L) (jV L))) Unit :=
  fun t _ => do
    let v : Vec F S16 .f32 ← Prog.lift (.load xM (lane t).toLoadRect (View.loadsAt_vmem h_S16))
    let _ : Vec F S16 .i32 ← Prog.lift (.load yM (lane t).toLoadRect (View.loadsAt_vmem h_S16))
    Prog.lift (.store yM (lane t) (k0_pay1 v) Finset.univ (View.stores_vmem_bits_univ h_S16 rfl) (.inl rfl))
    pure ⟨⟩

def cloop (xM : Memref sig .scVector .vmem S16384 .f32) (yM : Memref sig .scVector .vmem S16384 .i32) :
    Prog (TpuEff nD τ sig (Elt F) Λ₀ (.scVector (cV L) (jV L))) Unit :=
  Scf.Loop.for k0_t2_loop k0_t2_ok ⟨⟩ (cbody (F := F) L xM yM)

theorem lane_emb_val (t : Fin k0_t2_loop.trips) (x : S16.Idx) : (((lane t).emb x) 0).val = 16 * t.val + (x 0).val := by
  have h : (((lane t).emb x) 0).val = k0_off2 t 0 + 1 * (x 0).val := rfl
  have h' : k0_off2 t 0 = 16 * t.val := by rw [k0_off2_eq]; rfl
  rw [h, h']; omega

theorem mem_lane (t : Fin k0_t2_loop.trips) (j : S16384.Idx) :
    j ∈ (lane t).set ↔ 16 * t.val ≤ (j 0).val ∧ (j 0).val < 16 * t.val + 16 := by
  have h' : k0_off2 t 0 = 16 * t.val := by rw [k0_off2_eq]; rfl
  rw [Rect.mem_set_unit]
  constructor
  · intro h; have h0 := h 0; rw [h'] at h0; exact h0
  · intro h a
    obtain rfl : a = 0 := Subsingleton.elim _ _
    rw [h']; exact h

variable {α : Type} {Q : α → sProp (MT nD τ sig (HIx 1) (Elt F) ℕ UU ℕ)}

theorem wp_cbody (xM : Memref sig .scVector .vmem S16384 .f32) (yM : Memref sig .scVector .vmem S16384 .i32) (X : S16384.Idx → Elt F .f32)
    (t : Fin k0_t2_loop.trips) (u : Unit) :
    iprop(Holds d L xM X ∗ ∃ Y, ⌜∀ j : S16384.Idx, (j 0).val < 16 * t.val → Y j = bk (F := F) (X j)⌝ ∗ Holds d L yM Y)
      ⊢ WP d L (cbody (F := F) L xM yM t u)
          fun _ => iprop(Holds d L xM X ∗ ∃ Y, ⌜∀ j : S16384.Idx, (j 0).val < 16 * (t.val + 1) → Y j = bk (F := F) (X j)⌝ ∗ Holds d L yM Y) := by
  unfold cbody Holds
  simp only [Prog.lift, Prog.bind_op, Prog.bind_ret, Prog.pure_eq_ret]
  iintro ⟨⟨%f, %hf, Hx⟩, %Y, %hY, %g, %hg, Hy⟩
  iapply (wp_load 𝒱₀ (thr d L) none Set.univ (m := xM) (S := xM.view.set) (Finset.map_subset_map.mpr (Finset.subset_univ _))) $$ Hx; iintro Hx
  iapply (wp_load 𝒱₀ (thr d L) none Set.univ (m := yM) (S := yM.view.set) (Finset.map_subset_map.mpr (Finset.subset_univ _))) $$ Hy; iintro Hy
  iapply (wp_store 𝒱₀ (thr d L) none Set.univ (m := yM) (r := lane t) (Mk := Finset.univ) (S := yM.view.set) (View.set_slice_subset _ _)) $$ Hy; iintro Hy
  rw [wp_ret]; imodintro
  isplitl [Hx]
  · iexists f; isplitr; · ipureintro; exact hf
    iexact Hx
  · iexists (yM.view.read (Elt F) ((yM.access (lane t)).write (Elt F) g (k0_pay1 (xM.view.readAt (Elt F) (lane t).toLoadRect f)) Finset.univ))
    isplitr
    · ipureintro
      intro j hj
      by_cases hm : j ∈ (lane t).set
      · obtain ⟨x, rfl⟩ : ∃ x, (lane t).emb x = j := by
          rw [← Rect.map_emb_univ] at hm
          obtain ⟨x, -, hx⟩ := Finset.mem_map.mp hm
          exact ⟨x, hx⟩
        show View.read (Elt F) yM.view _ _ = _
        refine (View.read_slice_write_emb (v := yM.view) (Val := Elt F) (lane t) g _ (Finset.mem_univ x)).trans ?_
        rw [pay1_apply, ← hf]
        rfl
      · show View.read (Elt F) yM.view _ _ = _
        refine (View.read_slice_write_of_not_mem (v := yM.view) (Val := Elt F) (lane t) g _ Finset.univ (by rw [Rect.map_emb_univ]; exact hm)).trans ?_
        rw [hg]
        refine hY j ?_
        rw [mem_lane] at hm
        omega
    · iexists _; isplitr
      rotate_left
      · iexact Hy
      · ipureintro; rfl

theorem wp_cloop (xM : Memref sig .scVector .vmem S16384 .f32) (yM : Memref sig .scVector .vmem S16384 .i32) (X : S16384.Idx → Elt F .f32)
    {k : Unit → Prog (TpuEff nD τ sig (Elt F) Λ₀ (thr d L).2) α} :
    iprop(Holds d L xM X ∗ Some (F := F) d L yM)
      ⊢ iprop((iprop(Holds d L xM X ∗ Holds d L yM fun j => bk (F := F) (X j)) -∗ WP d L (k ⟨⟩) Q) -∗ WP d L (cloop (F := F) L xM yM >>= k) Q) := by
  unfold WP
  rw [wp_bind]
  iintro ⟨Hx, Hy⟩ Hk
  unfold Some
  icases Hy with ⟨%Y, Hy⟩
  iapply (Scf.wp_for (Fr := frame) (wpE := wpE (defs₀ (F := F)) 𝒱₀ (thr d L) none) (Es := Set.univ) _ _ _ k0_t2_ok ⟨⟩ (cbody (F := F) L xM yM)
    (fun t _ => iprop(Holds d L xM X ∗ ∃ Y, ⌜∀ j : S16384.Idx, (j 0).val < 16 * t → Y j = bk (F := F) (X j)⌝ ∗ Holds d L yM Y))
    (fun t u => wp_cbody d L xM yM X t u))
  isplitl [Hx Hy]
  · isplitl [Hx]; · iexact Hx
    iexists Y; isplitr
    · ipureintro; intro j hj; exact absurd hj (by omega)
    · iexact Hy
  iintro %acc ⟨Hx, %Y', %hY', Hy⟩
  iapply Hk
  isplitl [Hx]; · iexact Hx
  have e : Y' = fun j => bk (F := F) (X j) := funext fun j => hY' j (by
    have : (j 0).val < 16384 := (j 0).isLt
    have ht := trips2
    change _ < 16 * k0_t2_loop.trips
    rw [ht]; omega)
  rw [← e]; iexact Hy

end Cert.Proof.Sync
end
-- ==== Proof.SyncTile.lean ====
/-
  One tile of the simplest version: 64 times over, a chunk fetched, its bins computed, the chunk of the result written
  out — each copy waited for before the next step.
-/
module

public import proofs.«01_k».proof.Proof.SyncCompute

@[expose] public section

noncomputable section

namespace Cert.Proof.Sync

open Cert.KernelSyncIdeal Cert.KernelSyncIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx Pay tileRest ownBufs ownSems0 ownCells ownRefs mem_ownCells mem_ownRefs)
open Idealize.ShloMosaic.Rounds

variable {F : FTy → Type} [FloatOps F]

local notation "𝕄" => MT nD τ sig (HIx 1) (Elt F) ℕ UU ℕ

variable (m : (ℓ : Loc nD τ sig) → Buf (Elt F) ℓ) (d : Dev nD) (L : grid0.Coords)

omit [FloatOps F] in
theorem cfgFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev x0 : Memref sig .scVector .vmem S16384 .f32 := Memref.whole cc0_scratch0
abbrev y0 : Memref sig .scVector .vmem S16384 .i32 := Memref.whole cc0_scratch1

/-! ## The tile's own semaphores and buffers among those of its processor -/

abbrev sIn : GSem nD τ sig := (thr d L, .dma cc0_scoped0.sem)
abbrev sOut : GSem nD τ sig := (thr d L, .dma cc0_scoped1.sem)

theorem sIn_mem : sIn d L ∈ ownCells (thr d L) :=
  mem_ownCells.mpr ⟨rfl, by show (SemLoc.dma cc0_scoped0.sem : SemLoc sig).isScoped .scVector = true; decide⟩
theorem sOut_mem : sOut d L ∈ (ownCells (thr d L)).erase (sIn d L) :=
  Finset.mem_erase.mpr ⟨fun e => absurd (Prod.mk.inj e).2 (show (SemLoc.dma cc0_scoped1.sem : SemLoc sig) ≠ .dma cc0_scoped0.sem by decide),
    mem_ownCells.mpr ⟨rfl, by show (SemLoc.dma cc0_scoped1.sem : SemLoc sig).isScoped .scVector = true; decide⟩⟩

omit [FloatOps F] in
theorem ownSems0_V :
    (ownSems0 (thr d L) : sProp 𝕄)
      = iprop(semVal (sIn d L) 0 ∗ semVal (sOut d L) 0 ∗ bigSep (((ownCells (thr d L)).erase (sIn d L)).erase (sOut d L)) fun g => semVal g 0) := by
  unfold SparseCore.Cfg.ownSems0
  rw [SparseCore.bigSep_erase' (sIn_mem d L), SparseCore.bigSep_erase' (sOut_mem d L)]

abbrev rX : DevRef τ sig := (Proc.scVector (cV L) (jV L)).devRef cc0_scratch0
abbrev rY : DevRef τ sig := (Proc.scVector (cV L) (jV L)).devRef cc0_scratch1

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase (rX L)).erase (rY L)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := rX L) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := rY L) rfl⟩)]

theorem some_eq {e : EltTy} (xM : Memref sig .scVector .vmem S16384 e) (hset : xM.view.set = Finset.univ) :
    Some (F := F) d L xM = iprop(∃ f, xM.view.loc (thr d L) ↦{fullShare} f) := by
  unfold Some Holds
  rw [hset]
  have hu : (iprop(∃ X, ∃ f : Buf (Elt F) (xM.view.loc (thr d L)), ⌜xM.view.read (Elt F) f = X⌝ ∗ xM.view.loc (thr d L) ↦{fullShare} f) : sProp 𝕄)
      ⊣⊢ iprop(∃ f, xM.view.loc (thr d L) ↦{fullShare} f) := by
    constructor
    · iintro ⟨%X, %f, -, H⟩; iexists f; iexact H
    · iintro ⟨%f, H⟩; iexists (xM.view.read (Elt F) f); iexists f; isplitr
      · ipureintro; rfl
      · iexact H
  exact BI.equiv_iff.mp ⟨hu.1, hu.2⟩

theorem some_x0 : Some (F := F) d L x0 = iprop(∃ f, (thr d L).loc cc0_scratch0 ↦{fullShare} f) :=
  some_eq d L x0 (by simp only [Memref.view_whole, View.set_whole])
theorem some_y0 : Some (F := F) d L y0 = iprop(∃ f, (thr d L).loc cc0_scratch1 ↦{fullShare} f) :=
  some_eq d L y0 (by simp only [Memref.view_whole, View.set_whole])

theorem inPt_nil (a : ℕ) : inPt m d L a a = iprop(emp) := by
  unfold inPt; rw [span_self, pointsTo_empty]
theorem outPt_nil (f : Buf (Elt F) (rLoc d)) (a : ℕ) : outPt d L f a a = iprop(emp) := by
  unfold outPt; rw [span_self, pointsTo_empty]

/-! ## The loop over the chunks -/

/-- Between trips `t - 1` and `t`: the first `t` chunks of the result are written, both buffers and semaphores free. -/
def ROUND (O : CellTallies nD τ sig (HIx 1)) (W : Waits sig (HIx 1)) (t : ℕ) : sProp 𝕄 :=
  iprop(Transfers.MayWaits (thr d L) none O ∗ (inPt m d L 0 t ∗ inPt m d L t 64) ∗ (outPt d L (OUT m d) 0 t ∗ outPt d L (m (rLoc d)) t 64)
    ∗ (Some (F := F) d L x0 ∗ semVal (sIn d L) 0) ∗ (Some (F := F) d L y0 ∗ semVal (sOut d L) 0) ∗ OW d L O W)

/-- The printed body of the loop over the chunks, on the tile's buffers. -/
abbrev roundBody : Fin k0_t1_loop.trips → Unit → Prog (TpuEff nD τ sig (Elt F) Λ₀ (.scVector (cV L) (jV L))) Unit :=
  k0_t1_body (F := F) L oV (Memref.isWhole_whole _) bV (Memref.isWhole_whole _) rV (Memref.isWhole_whole _)
    x0 (Memref.isWhole_whole _) y0 (Memref.isWhole_whole _) cc0_scoped0 cc0_scoped1

theorem inner_eq : Scf.Loop.for k0_t2_loop k0_t2_ok ⟨⟩ (k0_t2_body (F := F) L oV (Memref.isWhole_whole _) bV (Memref.isWhole_whole _) rV (Memref.isWhole_whole _)
    x0 (Memref.isWhole_whole _) y0 (Memref.isWhole_whole _) cc0_scoped0 cc0_scoped1) = cloop (F := F) L x0 y0 := rfl

theorem wp_round (O : CellTallies nD τ sig (HIx 1)) (W : Waits sig (HIx 1)) (t : Fin k0_t1_loop.trips) (u : Unit) :
    ROUND m d L O W t.val ⊢ WP d L (roundBody (F := F) L t u) fun _ => ROUND m d L O W (t.val + 1) := by
  have ht : t.val < 64 := lt_of_lt_of_eq t.isLt trips1
  unfold ROUND roundBody k0_t1_body
  rw [inner_eq]
  simp only [Prog.lift, Prog.bind_op, Prog.bind_ret, Prog.pure_eq_ret, bind_assoc]
  iintro ⟨#Hmw, ⟨Hd, Ht⟩, ⟨Hod, Ho⟩, ⟨Hx, Hs⟩, ⟨Hy, Hs'⟩, HO⟩
  iapply (wp_issueIn m d L x0 cc0_scoped0.sem ht (off1_coff L t)) $$ [Hx Hs Ht]
  · isplitl [Hx]; · iexact Hx
    isplitl [Hs] <;> iassumption
  iintro ⟨Hf, Ht⟩
  iapply (wp_waitIn m d L x0 cc0_scoped0.sem t.val O W) $$ [Hf Hd HO]
  · isplitr; · iexact Hmw
    isplitl [Hf]; · iexact Hf
    isplitl [Hd] <;> iassumption
  iintro ⟨Hx, Hs, Hd, HO⟩
  iapply (wp_cloop d L x0 y0 (XC m d L t.val)) $$ [Hx Hy]
  · isplitl [Hx] <;> iassumption
  iintro ⟨Hx, Hy⟩
  iapply (wp_issueOut m d L y0 cc0_scoped1.sem ht (off1_coff L t)) $$ [Hy Hs' Ho]
  · isplitl [Hy]; · iexact Hy
    isplitl [Hs'] <;> iassumption
  iintro ⟨Hg, Ho⟩
  iapply (wp_waitOut m d L y0 cc0_scoped1.sem t.val O W) $$ [Hg Hod HO]
  · isplitr; · iexact Hmw
    isplitl [Hg]; · iexact Hg
    isplitl [Hod] <;> iassumption
  iintro ⟨Hy, Hs', Hod, HO⟩
  unfold WP; rw [wp_ret]; imodintro
  isplitr; · iexact Hmw
  isplitl [Hd Ht]; · isplitl [Hd] <;> iassumption
  isplitl [Hod Ho]; · isplitl [Hod] <;> iassumption
  isplitl [Hx Hs]
  · isplitl [Hx]
    · unfold Some; iexists _; iexact Hx
    · iexact Hs
  isplitl [Hy Hs']; · isplitl [Hy] <;> iassumption
  iexact HO

/-! ## The run -/

theorem tile_body (hF : (K (F := F)).Facts) (O : CellTallies nD τ sig (HIx 1)) (W : Waits sig (HIx 1)) (hO : ∀ g, O g none = 0) :
    iprop(levAts (K (F := F)).L (K (F := F)).lev ∗ emp ∗ (inPt m d L 0 64 ∗ outPt d L (m (rLoc d)) 0 64)
        ∗ scopedBufs (thr d L) ∗ scopedSems0 (thr d L) ∗ owes (thr d L) O W)
      ⊢ WP d L (cc0__sync_body (F := F) L oV (Memref.isWhole_whole _) bV (Memref.isWhole_whole _) rV (Memref.isWhole_whole _)
          x0 (Memref.isWhole_whole _) y0 (Memref.isWhole_whole _) cc0_scoped0 cc0_scoped1)
        fun _ => iprop((inPt m d L 0 64 ∗ outPt d L (OUT m d) 0 64) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  rw [← some_x0, ← some_y0]
  simp only [cc0__sync_body_eq_skeleton, cc0__sync_body_skel, Prog.pure_eq_ret]
  iintro ⟨#Hlv, -, ⟨Ht, Ho⟩, ⟨Hx, Hy, Hbufs⟩, ⟨Hs, Hs', Hsems⟩, HO⟩
  ihave #Hmw := ((K (F := F)).mayWaits_none (thr := thr d L) hO) $$ Hlv
  ihave Hd := (Entails.of_eq (inPt_nil m d L 0).symm) $$ []; · iempintro
  ihave Hod := (Entails.of_eq (outPt_nil d L (OUT m d) 0).symm) $$ []; · iempintro
  ihave HO := (show owes (thr d L) O W ⊢ OW (F := F) d L O W from by
    unfold OW; iintro H; iexists W; isplitr
    · ipureintro; exact fun p hp => .inl hp
    · iexact H) $$ HO
  iapply (Scf.wp_for_bind (Fr := frame) (wpE := wpE (defs₀ (F := F)) 𝒱₀ (thr d L) none) (Es := Set.univ) _ _ _ k0_t1_ok ⟨⟩ _
    (fun t _ => ROUND m d L O W t) (fun t u => wp_round m d L O W t u)) $$ [Hd Ht Hod Ho Hx Hs Hy Hs' HO]
  · unfold ROUND
    isplitr; · iexact Hmw
    isplitl [Hd Ht]; · isplitl [Hd] <;> iassumption
    isplitl [Hod Ho]; · isplitl [Hod] <;> iassumption
    isplitl [Hx Hs]; · isplitl [Hx] <;> iassumption
    isplitl [Hy Hs']; · isplitl [Hy] <;> iassumption
    iexact HO
  iintro %u H
  ihave H := (show ROUND m d L O W (Scf.trips k0_t1_loop.lb k0_t1_loop.ub k0_t1_loop.st) ⊢ ROUND m d L O W 64 from
    Entails.of_eq (congrArg (ROUND m d L O W) trips1)) $$ H
  unfold ROUND
  icases H with ⟨-, ⟨Hd, -⟩, ⟨Hod, -⟩, ⟨Hx, Hs⟩, ⟨Hy, Hs'⟩, HO⟩
  rw [wp_ret]; imodintro
  isplitl [Hd Hod]
  · isplitl [Hd] <;> iassumption
  isplitl [Hx Hy Hbufs]
  · isplitl [Hx]; · iexact Hx
    isplitl [Hy] <;> iassumption
  isplitl [Hs Hs' Hsems]
  · isplitl [Hs]; · iexact Hs
    isplitl [Hs'] <;> iassumption
  unfold OW; iexact HO

end Cert.Proof.Sync
end
-- ==== Proof.SyncLaunch.lean ====
/-
  The simplest version's launch: how `o` and the result are dealt out to the SparseCores and their tiles — here every
  other part to each SparseCore — and gathered again, and the run of the whole program.
-/
module

public import proofs.«01_k».proof.Proof.SyncTile

@[expose] public section

noncomputable section

namespace Cert.Proof.Sync

open Cert.KernelSyncIdeal Cert.KernelSyncIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx Pay tileRest ownBufs ownSems0 ownCells ownRefs mem_ownCells mem_ownRefs)
open Idealize.ShloMosaic.Rounds

variable {F : FTy → Type} [FloatOps F]

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

omit [FloatOps F] in
theorem nCore_zero : (K (F := F)).nCore 0 = 2 := rfl
omit [FloatOps F] in
theorem nSub_zero : (K (F := F)).nSub 0 = 16 := rfl

/-! ## The parts of the arrays -/

def coordsV (c : Fin (grid0.bound 0)) (s : Fin (grid0.bound 1)) : grid0.Coords :=
  fun | 0 => c | 1 => s | ⟨_ + 2, h⟩ => absurd h (Nat.not_lt.2 (Nat.le_add_left _ _))

/-- Tile `s` of SparseCore `c`. -/
abbrev tl (c : Fin 2) (s : Fin 16) : grid0.Coords := coordsV c s

theorem base_tl (c : Fin 2) (s : Fin 16) : base (tl c s) = 2097152 * s.val + 1048576 * c.val := rfl

/-- SparseCore `c`'s elements: its sixteen tiles'. -/
def part (c : Fin 2) : Finset S33554432.Idx := (Finset.univ : Finset (Fin 16)).biUnion fun s => span (tl c s) 0 64

theorem mem_part {c : Fin 2} {i : S33554432.Idx} : i ∈ part c ↔ (i 0).val / 1048576 % 2 = c.val := by
  have hi : (i 0).val < 33554432 := (i 0).isLt
  have hc := c.isLt
  unfold part
  rw [Finset.mem_biUnion]
  constructor
  · rintro ⟨s, -, h⟩
    rw [mem_span, base_tl] at h
    omega
  · intro h
    refine ⟨⟨(i 0).val / 2097152, by omega⟩, Finset.mem_univ _, ?_⟩
    rw [mem_span, base_tl]
    show 2097152 * ((i 0).val / 2097152) + 1048576 * c.val + 16384 * 0 ≤ _
      ∧ _ < 2097152 * ((i 0).val / 2097152) + 1048576 * c.val + 16384 * 64
    omega

theorem part_disjoint : ∀ c ∈ (Finset.univ : Finset (Fin 2)), ∀ c' ∈ (Finset.univ : Finset (Fin 2)), c ≠ c' → Disjoint (part c) (part c') := by
  intro c _ c' _ h
  refine Finset.disjoint_left.mpr fun i h1 h2 => h (Fin.ext ?_)
  rw [mem_part] at h1 h2; omega

theorem part_cover : (Finset.univ : Finset (Fin 2)).biUnion part = Finset.univ := by
  refine Finset.eq_univ_of_forall fun i => Finset.mem_biUnion.mpr ?_
  exact ⟨⟨(i 0).val / 1048576 % 2, Nat.mod_lt _ (by decide)⟩, Finset.mem_univ _, mem_part.mpr rfl⟩

theorem tile_disjoint (c : Fin 2) : ∀ s ∈ (Finset.univ : Finset (Fin 16)), ∀ s' ∈ (Finset.univ : Finset (Fin 16)), s ≠ s' →
    Disjoint (span (tl c s) 0 64) (span (tl c s') 0 64) := by
  intro s _ s' _ h
  refine Finset.disjoint_left.mpr fun i h1 h2 => h (Fin.ext ?_)
  rw [mem_span, base_tl] at h1 h2; omega

theorem tile_cover (c : Fin 2) : (Finset.univ : Finset (Fin 16)).biUnion (fun s => span (tl c s) 0 64) = part c := rfl

/-- SparseCore `c`'s part of `o`, and of the result at the elements of `f`. -/
def inPart (d : Dev nD) (c : Fin 2) : sProp 𝕄 := oLoc d ↦[part c]{fullShare} m (oLoc d)
def outPart (d : Dev nD) (f : Buf (Elt F) (rLoc d)) (c : Fin 2) : sProp 𝕄 := rLoc d ↦[part c]{fullShare} f

omit [FloatOps F] in
theorem inPart_tiles (d : Dev nD) (c : Fin 2) : inPart m d c = bigSep Finset.univ fun s : Fin 16 => inPt m d (tl c s) 0 64 := by
  unfold inPart inPt
  rw [← pointsTo_biUnion Finset.univ (ℓ := oLoc d) (fun s => span (tl c s) 0 64) (tile_disjoint c), tile_cover]
omit [FloatOps F] in
theorem outPart_tiles (d : Dev nD) (f : Buf (Elt F) (rLoc d)) (c : Fin 2) :
    outPart d f c = bigSep Finset.univ fun s : Fin 16 => outPt d (tl c s) f 0 64 := by
  unfold outPart outPt
  rw [← pointsTo_biUnion Finset.univ (ℓ := rLoc d) (fun s => span (tl c s) 0 64) (tile_disjoint c), tile_cover]
omit [FloatOps F] in
theorem in_parts (d : Dev nD) : (oLoc d ↦{fullShare} m (oLoc d) : sProp 𝕄) = bigSep Finset.univ fun c : Fin 2 => inPart m d c := by
  unfold inPart
  rw [← pointsTo_biUnion Finset.univ (ℓ := oLoc d) part part_disjoint, part_cover]
omit [FloatOps F] in
theorem out_parts (d : Dev nD) (f : Buf (Elt F) (rLoc d)) : (rLoc d ↦{fullShare} f : sProp 𝕄) = bigSep Finset.univ fun c : Fin 2 => outPart d f c := by
  unfold outPart
  rw [← pointsTo_biUnion Finset.univ (ℓ := rLoc d) part part_disjoint, part_cover]

/-! ## What the handshakes carry -/

def P : (K (F := F)).Pay (nD := nD) (Val := Elt F) (Name := ℕ) (U := UU) where
  st := fun q d c => match q with | 0 => iprop(inPart m d (Fin.cast nCore_zero c) ∗ outPart d (m (rLoc d)) (Fin.cast nCore_zero c))
  dn := fun q d c => match q with | 0 => iprop(inPart m d (Fin.cast nCore_zero c) ∗ outPart d (OUT m d) (Fin.cast nCore_zero c))
  go := fun q d c i => match q with
    | 0 => iprop(inPt m d (tl (Fin.cast nCore_zero c) (Fin.cast nSub_zero i)) 0 64 ∗ outPt d (tl (Fin.cast nCore_zero c) (Fin.cast nSub_zero i)) (m (rLoc d)) 0 64)
  td := fun q d c i => match q with
    | 0 => iprop(inPt m d (tl (Fin.cast nCore_zero c) (Fin.cast nSub_zero i)) 0 64 ∗ outPt d (tl (Fin.cast nCore_zero c) (Fin.cast nSub_zero i)) (OUT m d) 0 64)
  x := fun _ _ => iprop(emp)

instance inPt_storable (d : Dev nD) (L : grid0.Coords) (a b : ℕ) : BI.Storable (upEmb : UEmb _ 𝕄) (inPt m d L a b) := by
  unfold inPt; infer_instance
instance outPt_storable (d : Dev nD) (L : grid0.Coords) (f : Buf (Elt F) (rLoc d)) (a b : ℕ) : BI.Storable (upEmb : UEmb _ 𝕄) (outPt d L f a b) := by
  unfold outPt; infer_instance
instance inPart_storable (d : Dev nD) (c : Fin 2) : BI.Storable (upEmb : UEmb _ 𝕄) (inPart m d c) := by
  unfold inPart; infer_instance
instance outPart_storable (d : Dev nD) (f : Buf (Elt F) (rLoc d)) (c : Fin 2) : BI.Storable (upEmb : UEmb _ 𝕄) (outPart d f c) := by
  unfold outPart; infer_instance

instance P_storable : (P (F := F) m).IsStorable where
  st q d c := match q with
    | 0 => (inferInstance : BI.Storable (upEmb : UEmb _ 𝕄) iprop(inPart m d (Fin.cast nCore_zero c) ∗ outPart d (m (rLoc d)) (Fin.cast nCore_zero c)))
  dn q d c := match q with
    | 0 => (inferInstance : BI.Storable (upEmb : UEmb _ 𝕄) iprop(inPart m d (Fin.cast nCore_zero c) ∗ outPart d (OUT m d) (Fin.cast nCore_zero c)))
  go q d c i := match q with
    | 0 => (inferInstance : BI.Storable (upEmb : UEmb _ 𝕄)
        iprop(inPt m d (tl (Fin.cast nCore_zero c) (Fin.cast nSub_zero i)) 0 64 ∗ outPt d (tl (Fin.cast nCore_zero c) (Fin.cast nSub_zero i)) (m (rLoc d)) 0 64))
  td q d c i := match q with
    | 0 => (inferInstance : BI.Storable (upEmb : UEmb _ 𝕄)
        iprop(inPt m d (tl (Fin.cast nCore_zero c) (Fin.cast nSub_zero i)) 0 64 ∗ outPt d (tl (Fin.cast nCore_zero c) (Fin.cast nSub_zero i)) (OUT m d) 0 64))

/-! ## The launch theorem's obligations -/

theorem defs₀_vector (c : Fin τ.nSC) (s : Fin τ.nSub) :
    defs₀ (F := F) (.scVector c s) 0 ()
      = SparseCore.onTile hcore0 hsub0 (fun c s => cc0__sync_body (coordsV c s)
          oV (Memref.isWhole_whole _) bV (Memref.isWhole_whole _) rV (Memref.isWhole_whole _)
          x0 (Memref.isWhole_whole _) y0 (Memref.isWhole_whole _) cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show iprop(inPart m d (Fin.cast nCore_zero c) ∗ outPart d (m (rLoc d)) (Fin.cast nCore_zero c)) ⊢ |={Set.univ}=> iprop(
      (bigSep Finset.univ fun i : Fin ((K (F := F)).nSub 0) =>
        iprop(inPt m d (tl (Fin.cast nCore_zero c) (Fin.cast nSub_zero i)) 0 64 ∗ outPt d (tl (Fin.cast nCore_zero c) (Fin.cast nSub_zero i)) (m (rLoc d)) 0 64))
      ∗ ((bigSep Finset.univ fun i : Fin ((K (F := F)).nSub 0) =>
          iprop(inPt m d (tl (Fin.cast nCore_zero c) (Fin.cast nSub_zero i)) 0 64 ∗ outPt d (tl (Fin.cast nCore_zero c) (Fin.cast nSub_zero i)) (OUT m d) 0 64))
          -∗ iprop(inPart m d (Fin.cast nCore_zero c) ∗ outPart d (OUT m d) (Fin.cast nCore_zero c))))
  generalize Fin.cast nCore_zero c = c'
  rw [bigSep_tasks (F := F) (fun i => iprop(inPt m d (tl c' i) 0 64 ∗ outPt d (tl c' i) (m (rLoc d)) 0 64)),
    bigSep_tasks (F := F) (fun i => iprop(inPt m d (tl c' i) 0 64 ∗ outPt d (tl c' i) (OUT m d) 0 64)), bigSep_sep', bigSep_sep',
    inPart_tiles, outPart_tiles, outPart_tiles]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((oLoc d ↦{fullShare} W main_arg0) ∗ (bLoc d ↦{fullShare} W main_arg1) ∗ rLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c)
    = iprop((oLoc d ↦{fullShare} m (oLoc d)) ∗ rLoc d ↦{fullShare} m (rLoc d)) := by
  rw [in_parts, out_parts, ← bigSep_sep']
  exact bigSep_cores (F := F) (fun c => iprop(inPart m d c ∗ outPart d (m (rLoc d)) c))
theorem dn0_eq (d : Dev nD) : (bigSep Finset.univ fun c : Fin ((K (F := F)).nCore 0) => (P m).dn 0 d c)
    = iprop((oLoc d ↦{fullShare} m (oLoc d)) ∗ rLoc d ↦{fullShare} OUT m d) := by
  rw [in_parts, out_parts, ← bigSep_sep']
  exact bigSep_cores (F := F) (fun c => iprop(inPart m d c ∗ outPart d (OUT m d) c))

abbrev FIN (d : Dev nD) : sProp 𝕄 :=
  iprop((oLoc d ↦{fullShare} m (oLoc d)) ∗ (bLoc d ↦{fullShare} m (bLoc d)) ∗ rLoc d ↦{fullShare} OUT m d)

/-- `@main` on device `d`'s TensorCore: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hi, Hx, Ho⟩, Hts, -⟩, -⟩
  iapply ((K (F := F)).wp_run (D (F := F)) 𝒱 (EH := EH) (P := P m) κ d 0) $$ [Hst Hi Hx Ho Hb Hts]
  isplitr; · iexact Hctx
  isplitl [Hst]; · iexact Hst
  isplitl [Hi Ho]
  · rw [st0_eq]
    isplitl [Hi]; · iexact Hi
    iexact Ho
  iintro ⟨Hst, Hdn⟩
  ihave Hdn' := (Entails.of_eq (dn0_eq m d)) $$ Hdn
  icases Hdn' with ⟨Hi, Ho⟩
  imodintro
  isplitl [Hst]; · iexact Hst
  isplitr [Hb Hts]
  · isplitl [Hi]; · iexact Hi
    isplitl [Hx]; · iexact Hx
    iexact Ho
  isplitl [Hb] <;> iassumption

def fq (d : Dev nD) (s' : Phys nD τ sig (Elt F)) : Prop :=
  s'.mem.mem (oLoc d) = m (oLoc d) ∧ s'.mem.mem (bLoc d) = m (bLoc d) ∧ s'.mem.mem (rLoc d) = OUT m d

theorem hfin (d : Dev nD) (s' : Phys nD τ sig (Elt F)) : iprop(FIN m d ∗ SI s') ⊢ (⌜fq m d s'⌝ : sProp 𝕄) := by
  iintro ⟨⟨Hi, Hx, Ho⟩, HSI⟩
  ihave H := (persistent_entails_right (SI_pointsTo_agree (st := s') (ℓ := oLoc d) (I := Finset.univ) (q := fullShare) (f := m (oLoc d)))) $$ [HSI Hi]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hx]
  · isplitl [HSI] <;> iassumption
  icases H with ⟨%h2, HSI, -⟩
  ihave H := (SI_pointsTo_agree (st := s') (ℓ := rLoc d) (I := Finset.univ) (q := fullShare) (f := OUT m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  (∀ c : Dev nD, r.2.mem (oLoc c) = m (oLoc c) ∧ r.2.mem (bLoc c) = m (bLoc c) ∧ r.2.mem (rLoc c) = OUT m c) ∧ r.2.sem = fun _ => 0

theorem run_main [∀ e, Nonempty (Elt F e)] :
    θ_run (Cert.KernelSyncIdeal.defs (F := F)) (Cert.KernelSyncIdeal.threads (F := F)) ⟨m, fun _ => 0, ρ⟩ (QC m) :=
  SparseCore.Cfg.θ_run_sc_quiescent (K := K (F := F)) (D := D (F := F)) (𝒱 := 𝒱) (EH := EH) (P := P m) (A := ∅) cfgFacts v₀
    (fun q hq => match q with | 0 => nomatch hq)
    (fun q _ => match q with | 0 => tileObl m cfgFacts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Sync

end
-- ==== Proof.SyncClaims.lean ====
/-
  The simplest version: its frames and its value claim — the reference's count, at every element.
-/
module

public import proofs.«01_k».proof.Proof.SyncLaunch
public import proofs.«01_k».proof.Proof.Value
public import proofs.«01_k».proof.Proof.Gen.KernelSync
public import Idealize.ShloMosaic.Adequacy
public import Idealize.ShloMosaic.Init

@[expose] public section

noncomputable section

namespace Cert.Proof.Sync

open Idealize.ShloMosaic Idealize.ShloMosaic.ValueIdx Idealize.SL.Sem
open Cert.Proof.Edges Cert.Proof.Value

attribute [local instance] Cert.KernelSync.Gen.facts Cert.KernelSyncIdeal.Gen.facts Cert.ReferenceIdeal.Gen.facts

theorem frame_kernel : Cert.quiescent_KernelSync := fun m ρ _ =>
  (θ_run Cert.KernelSyncIdeal.defs _ _).mono (fun _ h => ⟨fun c => ⟨(h.1 c).1, (h.1 c).2.1⟩, h.2⟩) (run_main (F := Bits) m ρ)

theorem frame_kernelIdeal : Cert.quiescent_KernelSyncIdeal := fun m ρ _ =>
  (θ_run Cert.KernelSyncIdeal.defs _ _).mono (fun _ h => ⟨fun c => ⟨(h.1 c).1, (h.1 c).2.1⟩, h.2⟩) (run_main (F := Ideal) m ρ)

/-- Over the extended reals the kernel's element function is `quantUp`. -/
theorem bk_ideal (x : Ideal .f32) : bk (F := Ideal) x = quantUp x := by
  unfold bk Cert.KernelSyncIdeal.Gen.k0_pay1
  rw [shapeCast_self]
  show roundUp (min (max ((x + Ideal.ofBits .f32 0x40800000#32) * Ideal.ofBits .f32 0x41FE0000#32) (Ideal.ofBits .f32 0x00000000#32)) (Ideal.ofBits .f32 0x437F0000#32)) = _
  rw [c_scale, c_four, c_zero, c_top]
  rfl

theorem out_eq (m : (ℓ : Loc Cert.KernelSyncIdeal.nD Cert.KernelSyncIdeal.τ Cert.KernelSyncIdeal.sig) → Buf (Elt Ideal) ℓ) (d : Dev Cert.KernelSyncIdeal.nD)
    (i : (⟨1, ![33554432]⟩ : Shape).Idx) : OUT m d i = BitVec.ofNat 32 (below (m (oLoc d) i)) :=
  (bk_ideal _).trans (quantUp_eq _)

/-- At uniform bins the kernel leaves the reference's count of the bins below each element: the whole result. -/
theorem value_left : Cert.algebraic_KernelSyncIdeal_ReferenceIdeal_pre_bins_uniform := by
  intro m g m' g' hpre hag
  refine ⟨fun c => OUT m c, (θ_run Cert.KernelSyncIdeal.defs _ _).mono (fun _ h c => ⟨(h.1 c).2.2, (h.1 c).1, (h.1 c).2.1⟩) (run_main (F := Ideal) m g),
    (θ_run Cert.ReferenceIdeal.defs _ _).mono (fun r h c => ⟨(h c).1.trans ?_, (h c).2⟩) (Cert.ReferenceIdeal.Value.run (F := Ideal) m' g')⟩
  show leftOf (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1)) = OUT m c
  rw [(hag c).1, (hag c).2]
  refine funext fun i => ?_
  rw [idx_eq i]
  exact (leftOf_eq _ _ (bins_of_pre _ _ (hpre c)) (i 0)).trans (out_eq m c (ix1 (i 0))).symm

end Cert.Proof.Sync

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.ReferenceRightIdeal.Run
public import proofs.«01_k».proof.Proof.Gen.ReferenceRightIdeal
public import proofs.«01_k».proof.Proof.Gen.KernelSync
public import proofs.«01_k».proof.Proof.Gen.KernelSync.Skeleton
public import proofs.«01_k».proof.Proof.Gen.KernelSyncIdeal
public import proofs.«01_k».proof.Proof.Gen.KernelSyncIdeal.Skeleton
public import proofs.«01_k».proof.Proof.Claims
public import proofs.«01_k».proof.Proof.SyncClaims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.ReferenceRightIdeal.Gen.facts,
    Cert.KernelSync.Gen.facts, Cert.KernelSyncIdeal.Gen.facts, Value.preFacts, Value.onFacts,
    Quant.frame_kernel, Quant.frame_kernelIdeal, fun m g _ => Quant.frame_kernelIdeal m g trivial,
    Quant.frame_left, fun m g _ => Quant.frame_left m g trivial,
    Quant.frame_right, fun m g _ => Quant.frame_right m g trivial,
    Sync.frame_kernel, Sync.frame_kernelIdeal, fun m g _ => Sync.frame_kernelIdeal m g trivial,
    trivial, Quant.value_left, Quant.value_right, trivial, Sync.value_left⟩

end Cert.Proof

end
